-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![2048, 256]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 256]⟩ ⟨2, ![2048, 256]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S1x256 : Shape := ⟨2, ![1, 256]⟩
abbrev S7x1x256 : Shape := ⟨3, ![7, 1, 256]⟩
abbrev S7 : Shape := ⟨1, ![7]⟩
abbrev S_ : Shape := ⟨0, ![]⟩
abbrev S256 : Shape := ⟨1, ![256]⟩
abbrev S1 : Shape := ⟨1, ![1]⟩
abbrev S1x1x256 : Shape := ⟨3, ![1, 1, 256]⟩

abbrev nBuf : Space → Nat
  | .hbm => 2
  | .vmem => 5
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S1x256, .f32⟩
  | .local _ .vmem, ⟨3, _⟩ => ⟨S7x1x256, .f32⟩
  | .local _ .vmem, ⟨4, _⟩ => ⟨S1x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 1 := Scalar.cmpi .sge v2 c1_i32_0
  let v5 : BitVec 32 := Scalar.extui v4
  let c0_i32 : BitVec 32 := 0#32
  let v6 : BitVec 1 := Scalar.cmpi .ne v5 c0_i32
  v6

def k0_dev1 (d0 : Dev nD) : Nat :=
  let c0_i32_100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_97 : BitVec 32 := 1#32
  let v153 : BitVec 32 := Scalar.subi v2 c1_i32_97
  let c1_i32_99 : BitVec 32 := 1#32
  let v154 : BitVec 32 := Scalar.muli v153 c1_i32_99
  let v155 : BitVec 32 := Scalar.addi c0_i32_100 v154
  v155.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 1 := Scalar.cmpi .sge v2 c2_i32
  let v8 : BitVec 32 := Scalar.extui v7
  let c0_i32_1 : BitVec 32 := 0#32
  let v9 : BitVec 1 := Scalar.cmpi .ne v8 c0_i32_1
  v9

def k0_dev2 (d0 : Dev nD) : Nat :=
  let c0_i32_100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_97 : BitVec 32 := 2#32
  let v153 : BitVec 32 := Scalar.subi v2 c2_i32_97
  let c1_i32_99 : BitVec 32 := 1#32
  let v154 : BitVec 32 := Scalar.muli v153 c1_i32_99
  let v155 : BitVec 32 := Scalar.addi c0_i32_100 v154
  v155.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 1 := Scalar.cmpi .sge v2 c3_i32
  let v11 : BitVec 32 := Scalar.extui v10
  let c0_i32_2 : BitVec 32 := 0#32
  let v12 : BitVec 1 := Scalar.cmpi .ne v11 c0_i32_2
  v12

def k0_dev3 (d0 : Dev nD) : Nat :=
  let c0_i32_100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_97 : BitVec 32 := 3#32
  let v153 : BitVec 32 := Scalar.subi v2 c3_i32_97
  let c1_i32_99 : BitVec 32 := 1#32
  let v154 : BitVec 32 := Scalar.muli v153 c1_i32_99
  let v155 : BitVec 32 := Scalar.addi c0_i32_100 v154
  v155.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v13 : BitVec 1 := Scalar.cmpi .sge v2 c4_i32
  let v14 : BitVec 32 := Scalar.extui v13
  let c0_i32_3 : BitVec 32 := 0#32
  let v15 : BitVec 1 := Scalar.cmpi .ne v14 c0_i32_3
  v15

def k0_dev4 (d0 : Dev nD) : Nat :=
  let c0_i32_100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_97 : BitVec 32 := 4#32
  let v153 : BitVec 32 := Scalar.subi v2 c4_i32_97
  let c1_i32_99 : BitVec 32 := 1#32
  let v154 : BitVec 32 := Scalar.muli v153 c1_i32_99
  let v155 : BitVec 32 := Scalar.addi c0_i32_100 v154
  v155.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v16 : BitVec 1 := Scalar.cmpi .sge v2 c5_i32
  let v17 : BitVec 32 := Scalar.extui v16
  let c0_i32_4 : BitVec 32 := 0#32
  let v18 : BitVec 1 := Scalar.cmpi .ne v17 c0_i32_4
  v18

def k0_dev5 (d0 : Dev nD) : Nat :=
  let c0_i32_100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_97 : BitVec 32 := 5#32
  let v153 : BitVec 32 := Scalar.subi v2 c5_i32_97
  let c1_i32_99 : BitVec 32 := 1#32
  let v154 : BitVec 32 := Scalar.muli v153 c1_i32_99
  let v155 : BitVec 32 := Scalar.addi c0_i32_100 v154
  v155.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v19 : BitVec 1 := Scalar.cmpi .sge v2 c6_i32
  let v20 : BitVec 32 := Scalar.extui v19
  let c0_i32_5 : BitVec 32 := 0#32
  let v21 : BitVec 1 := Scalar.cmpi .ne v20 c0_i32_5
  v21

def k0_dev6 (d0 : Dev nD) : Nat :=
  let c0_i32_100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_97 : BitVec 32 := 6#32
  let v153 : BitVec 32 := Scalar.subi v2 c6_i32_97
  let c1_i32_99 : BitVec 32 := 1#32
  let v154 : BitVec 32 := Scalar.muli v153 c1_i32_99
  let v155 : BitVec 32 := Scalar.addi c0_i32_100 v154
  v155.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v22 : BitVec 1 := Scalar.cmpi .sge v2 c7_i32
  let v23 : BitVec 32 := Scalar.extui v22
  let c0_i32_6 : BitVec 32 := 0#32
  let v24 : BitVec 1 := Scalar.cmpi .ne v23 c0_i32_6
  v24

def k0_dev7 (d0 : Dev nD) : Nat :=
  let c0_i32_100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_97 : BitVec 32 := 7#32
  let v153 : BitVec 32 := Scalar.subi v2 c7_i32_97
  let c1_i32_99 : BitVec 32 := 1#32
  let v154 : BitVec 32 := Scalar.muli v153 c1_i32_99
  let v155 : BitVec 32 := Scalar.addi c0_i32_100 v154
  v155.toNat
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_31 : BitVec 32 := 1#32
  let v60 : BitVec 32 := Scalar.addi v2 c1_i32_31
  let c8_i32_32 : BitVec 32 := 8#32
  let v61 : BitVec 1 := Scalar.cmpi .slt v60 c8_i32_32
  let v62 : BitVec 32 := Scalar.extui v61
  let c0_i32_33 : BitVec 32 := 0#32
  let v63 : BitVec 1 := Scalar.cmpi .ne v62 c0_i32_33
  v63

def k0_dev8 (d0 : Dev nD) : Nat :=
  let c0_i32_102 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_97 : BitVec 32 := 1#32
  let v153 : BitVec 32 := Scalar.addi v2 c1_i32_97
  let c1_i32_101 : BitVec 32 := 1#32
  let v154 : BitVec 32 := Scalar.muli v153 c1_i32_101
  let v155 : BitVec 32 := Scalar.addi c0_i32_102 v154
  v155.toNat
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_34 : BitVec 32 := 2#32
  let v64 : BitVec 32 := Scalar.addi v2 c2_i32_34
  let c8_i32_35 : BitVec 32 := 8#32
  let v65 : BitVec 1 := Scalar.cmpi .slt v64 c8_i32_35
  let v66 : BitVec 32 := Scalar.extui v65
  let c0_i32_36 : BitVec 32 := 0#32
  let v67 : BitVec 1 := Scalar.cmpi .ne v66 c0_i32_36
  v67

def k0_dev9 (d0 : Dev nD) : Nat :=
  let c0_i32_102 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_97 : BitVec 32 := 2#32
  let v153 : BitVec 32 := Scalar.addi v2 c2_i32_97
  let c1_i32_101 : BitVec 32 := 1#32
  let v154 : BitVec 32 := Scalar.muli v153 c1_i32_101
  let v155 : BitVec 32 := Scalar.addi c0_i32_102 v154
  v155.toNat
def k0_cond17 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_37 : BitVec 32 := 3#32
  let v68 : BitVec 32 := Scalar.addi v2 c3_i32_37
  let c8_i32_38 : BitVec 32 := 8#32
  let v69 : BitVec 1 := Scalar.cmpi .slt v68 c8_i32_38
  let v70 : BitVec 32 := Scalar.extui v69
  let c0_i32_39 : BitVec 32 := 0#32
  let v71 : BitVec 1 := Scalar.cmpi .ne v70 c0_i32_39
  v71

def k0_dev10 (d0 : Dev nD) : Nat :=
  let c0_i32_102 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_97 : BitVec 32 := 3#32
  let v153 : BitVec 32 := Scalar.addi v2 c3_i32_97
  let c1_i32_101 : BitVec 32 := 1#32
  let v154 : BitVec 32 := Scalar.muli v153 c1_i32_101
  let v155 : BitVec 32 := Scalar.addi c0_i32_102 v154
  v155.toNat
def k0_cond18 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_40 : BitVec 32 := 4#32
  let v72 : BitVec 32 := Scalar.addi v2 c4_i32_40
  let c8_i32_41 : BitVec 32 := 8#32
  let v73 : BitVec 1 := Scalar.cmpi .slt v72 c8_i32_41
  let v74 : BitVec 32 := Scalar.extui v73
  let c0_i32_42 : BitVec 32 := 0#32
  let v75 : BitVec 1 := Scalar.cmpi .ne v74 c0_i32_42
  v75

def k0_dev11 (d0 : Dev nD) : Nat :=
  let c0_i32_102 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_97 : BitVec 32 := 4#32
  let v153 : BitVec 32 := Scalar.addi v2 c4_i32_97
  let c1_i32_101 : BitVec 32 := 1#32
  let v154 : BitVec 32 := Scalar.muli v153 c1_i32_101
  let v155 : BitVec 32 := Scalar.addi c0_i32_102 v154
  v155.toNat
def k0_cond19 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_43 : BitVec 32 := 5#32
  let v76 : BitVec 32 := Scalar.addi v2 c5_i32_43
  let c8_i32_44 : BitVec 32 := 8#32
  let v77 : BitVec 1 := Scalar.cmpi .slt v76 c8_i32_44
  let v78 : BitVec 32 := Scalar.extui v77
  let c0_i32_45 : BitVec 32 := 0#32
  let v79 : BitVec 1 := Scalar.cmpi .ne v78 c0_i32_45
  v79

def k0_dev12 (d0 : Dev nD) : Nat :=
  let c0_i32_102 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_97 : BitVec 32 := 5#32
  let v153 : BitVec 32 := Scalar.addi v2 c5_i32_97
  let c1_i32_101 : BitVec 32 := 1#32
  let v154 : BitVec 32 := Scalar.muli v153 c1_i32_101
  let v155 : BitVec 32 := Scalar.addi c0_i32_102 v154
  v155.toNat
def k0_cond20 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_46 : BitVec 32 := 6#32
  let v80 : BitVec 32 := Scalar.addi v2 c6_i32_46
  let c8_i32_47 : BitVec 32 := 8#32
  let v81 : BitVec 1 := Scalar.cmpi .slt v80 c8_i32_47
  let v82 : BitVec 32 := Scalar.extui v81
  let c0_i32_48 : BitVec 32 := 0#32
  let v83 : BitVec 1 := Scalar.cmpi .ne v82 c0_i32_48
  v83

def k0_dev13 (d0 : Dev nD) : Nat :=
  let c0_i32_102 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_97 : BitVec 32 := 6#32
  let v153 : BitVec 32 := Scalar.addi v2 c6_i32_97
  let c1_i32_101 : BitVec 32 := 1#32
  let v154 : BitVec 32 := Scalar.muli v153 c1_i32_101
  let v155 : BitVec 32 := Scalar.addi c0_i32_102 v154
  v155.toNat
def k0_cond21 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_49 : BitVec 32 := 7#32
  let v84 : BitVec 32 := Scalar.addi v2 c7_i32_49
  let c8_i32_50 : BitVec 32 := 8#32
  let v85 : BitVec 1 := Scalar.cmpi .slt v84 c8_i32_50
  let v86 : BitVec 32 := Scalar.extui v85
  let c0_i32_51 : BitVec 32 := 0#32
  let v87 : BitVec 1 := Scalar.cmpi .ne v86 c0_i32_51
  v87

def k0_dev14 (d0 : Dev nD) : Nat :=
  let c0_i32_102 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_97 : BitVec 32 := 7#32
  let v153 : BitVec 32 := Scalar.addi v2 c7_i32_97
  let c1_i32_101 : BitVec 32 := 1#32
  let v154 : BitVec 32 := Scalar.muli v153 c1_i32_101
  let v155 : BitVec 32 := Scalar.addi c0_i32_102 v154
  v155.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x256 : Shape := ⟨2, ![2048, 256]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S_, .f32⟩
  | .hbm, ⟨2, _⟩ => ⟨S_, .f32⟩
  | .hbm, ⟨3, _⟩ => ⟨S2048x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.Protocol.lean ====
/-
# The carry exchange: its protocol

Eight devices; device `c` holds one block of 256 rows. Each device sums its block's rows (its TOTAL, one row of
256 numbers) and copies the total into a slot of every device after it: the device `k + 1` places on receives it in
slot `k` of its landing buffer, `k = 0 … 6`. A device adds the totals it received to every row of its own running sums.

Who waits on what:

* the BARRIER semaphore of device `c` counts the devices after it that have entered: the device `k + 1` places on
  signals one unit (duty `k`), and with it hands over slot `k` of its own landing buffer, which `c` is about to write;
  `c` takes the `7 - c` units one at a time;
* RECEIVE semaphore `k` of device `c` is credited by the copy of the device `k + 1` places before it: the slot comes
  back holding that device's total;
* SEND semaphore `k` of device `c` is credited by `c`'s own copy to the device `k + 1` places on: the part of the
  total's ownership lent to the copy comes back.

No wait can close a circle: a device owes barrier units until its last signal and receive units until its last copy;
it waits on its barrier owing receive units only (level 2 over level 1) and on the copies owing nothing.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources: the pipeline's rounds and the exchange's (duties named by the distance) -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory the program starts from: any contents, every semaphore at zero. -/
def s₀ : MemSt nD τ sig (Elt F) := ⟨m, fun _ => 0, ρ⟩

/-! ## Neighbours at a distance -/

/-- Device `c` has a device `k + 1` places after it. -/
abbrev Sends (c : Dev nD) (k : Fin 7) : Prop := c.val + k.val < 7
/-- Device `c` has a device `k + 1` places before it. -/
abbrev Has (c : Dev nD) (k : Fin 7) : Prop := k.val < c.val

set_option backward.proofsInPublic true in
/-- The device `k + 1` places after `c`, counted round the mesh. -/
def up (c : Dev nD) (k : Fin 7) : Dev nD := ⟨(c.val + k.val + 1) % 8, Nat.mod_lt _ (by decide)⟩
set_option backward.proofsInPublic true in
/-- The device `k + 1` places before `c`, counted round the mesh. -/
def dn (c : Dev nD) (k : Fin 7) : Dev nD := ⟨(c.val + 7 - k.val) % 8, Nat.mod_lt _ (by decide)⟩

theorem dn_up (c : Dev nD) (k : Fin 7) : dn (up c k) k = c := by revert c k; decide
theorem up_dn (c : Dev nD) (k : Fin 7) : up (dn c k) k = c := by revert c k; decide
theorem has_up (c : Dev nD) (k : Fin 7) : Has (up c k) k ↔ Sends c k := by revert c k; decide
theorem sends_dn (c : Dev nD) (k : Fin 7) : Sends (dn c k) k ↔ Has c k := by revert c k; decide

/-- Going `k + 1` places on is a permutation of the devices. -/
def turn (k : Fin 7) : Dev nD ≃ Dev nD := ⟨fun c => up c k, fun c => dn c k, fun c => dn_up c k, fun c => up_dn c k⟩

/-! ## Buffers, semaphores, cells -/

abbrev xM : Memref sig .tc .vmem S256x256 .f32 := Memref.whole cc0_stg0_0
abbrev oM : Memref sig .tc .vmem S256x256 .f32 := Memref.whole cc0_stg1_0
/-- The row of totals, the landing buffer, the running carry. -/
abbrev totM : Memref sig .tc .vmem S1x256 .f32 := Memref.whole cc0_scratch0
abbrev commM : Memref sig .tc .vmem S7x1x256 .f32 := Memref.whole cc0_scratch1
abbrev carM : Memref sig .tc .vmem S1x256 .f32 := Memref.whole cc0_scratch2

set_option backward.proofsInPublic true in
theorem slot_inb (k : Fin 7) : ∀ a, (![k.val, 0, 0] : Fin 3 → Nat) a + S1x1x256.size a ≤ S7x1x256.size a := by revert k; decide
/-- Slot `k`'s box in the landing buffer. -/
abbrev slotR (k : Fin 7) : Rect S7x1x256 := Rect.unit (s := S7x1x256) ![k.val, 0, 0] S1x1x256.size (slot_inb k)
/-- Slot `k` of the landing buffer as a row. -/
abbrev slotM (k : Fin 7) : Memref sig .tc .vmem S1x256 .f32 :=
  (commM.slice (slotR k) (fun _ => rfl)).squeeze S1x256 squeezes_S1x1x256_S1x256

abbrev barS : Sem sig := sig.barrier 0 rfl
set_option backward.proofsInPublic true in
abbrev sendQ (k : Fin 7) : DmaSem sig := ⟨2 + k.val, by have := k.isLt; show 2 + k.val < 16; omega⟩
set_option backward.proofsInPublic true in
abbrev recvQ (k : Fin 7) : DmaSem sig := ⟨9 + k.val, by have := k.isLt; show 9 + k.val < 16; omega⟩

abbrev barCell (c : Dev nD) : GSem nD τ sig := ((c : Thread nD τ), .reg barS)
abbrev sendCell (c : Dev nD) (k : Fin 7) : GSem nD τ sig := ((c : Thread nD τ), .dma (sendQ k))
abbrev recvCell (c : Dev nD) (k : Fin 7) : GSem nD τ sig := ((c : Thread nD τ), .dma (recvQ k))

/-- The units one row's copy credits. -/
abbrev N : ℕ := (totM : Memref sig .tc .vmem S1x256 .f32).view.dmaCredit
theorem N_pos : 0 < N := View.dmaCredit_pos _ (by decide)

/-! ## Contents -/

/-- Device `c`'s block of `x`, as its staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

/-- Device `c`'s total: its block's rows summed. -/
def tot (c : Dev nD) : (cc0_scratch0 : Ref sig .tc).ty.Contents (Elt F) := k0_pay2 (k0_pay1 (xstg m ρ c))

/-- Slot `k` of device `c`'s landing buffer, whole, holding `f`. -/
def slotPts (c : Dev nD) (k : Fin 7) (f : Buf (Elt F) ((slotM k).view.loc (c : Thread nD τ))) : sProp 𝕄 :=
  ((slotM k).view.loc (c : Thread nD τ)) ↦[(slotM k).view.set]{fullShare} f
/-- The same at some contents. -/
def slotAny (c : Dev nD) (k : Fin 7) : sProp 𝕄 := iprop(∃ f, slotPts c k f)
/-- The same holding the total of the device `k + 1` places before `c`. -/
def slotGot (c : Dev nD) (k : Fin 7) : sProp 𝕄 :=
  iprop(∃ f, ⌜(slotM k).view.read (Elt F) f = tot m ρ (dn c k)⌝ ∗ slotPts c k f)

/-- Share `q` of device `c`'s row of totals, holding its total. -/
def totPts (q : PosShare TreeShare) (c : Dev nD) : sProp 𝕄 :=
  (totM.view.loc (c : Thread nD τ)) ↦[totM.view.set]{q} tot m ρ c

/-- What is left of a whole share after `j` halvings, -/
def restQ : ℕ → PosShare TreeShare
  | 0 => fullShare
  | j + 1 => (restQ j).right
/-- and the half split off by the next. -/
def partQ (j : ℕ) : PosShare TreeShare := (restQ j).left

instance slotPts_storable (c : Dev nD) (k f) : BI.Storable (upEmb : UEmb _ 𝕄) (slotPts (F := F) c k f) := by unfold slotPts; infer_instance
instance slotAny_storable (c : Dev nD) (k) : BI.Storable (upEmb : UEmb _ 𝕄) (slotAny (F := F) c k) := by unfold slotAny; infer_instance
instance slotGot_storable (c : Dev nD) (k) : BI.Storable (upEmb : UEmb _ 𝕄) (slotGot m ρ c k) := by unfold slotGot; infer_instance
instance totPts_storable (q) (c : Dev nD) : BI.Storable (upEmb : UEmb _ 𝕄) (totPts m ρ q c) := by unfold totPts; infer_instance

/-- A share of the totals row is its two halves: what is lent to copy `j` and what remains. -/
theorem tot_split (c : Dev nD) (j : ℕ) :
    (totPts m ρ (restQ j) c : sProp 𝕄) ⊣⊢ iprop(totPts m ρ (partQ j) c ∗ totPts m ρ (restQ (j + 1)) c) :=
  pointsTo_share (PosShare.mem_left_op_right (restQ j))

/-! ## The schedule -/

/-- What the device `k + 1` places after `d` hands `d` with its barrier signal: its slot `k`, and that its receive cell
    `k` is open for the copy. -/
def barPay (d : Dev nD) (k : Fin 7) : sProp 𝕄 := iprop(slotAny (up d k) k ∗ reached ER (recvCell (up d k) k) 0)

instance barPay_storable (c : Dev nD) (k) : BI.Storable (upEmb : UEmb _ 𝕄) (barPay (F := F) c k) := by unfold barPay; infer_instance

/-- Each cell's duties of its one round. -/
def dutiesOf (c : Dev nD) : SemLoc sig → Finset (Fin 7)
  | .reg _ => Finset.univ.filter fun k => Sends c k
  | .dma q => Finset.univ.filter fun k => (q = sendQ k ∧ Sends c k) ∨ (q = recvQ k ∧ Has c k)

/-- Each duty's units. -/
def unitsOf : SemLoc sig → ℕ
  | .reg _ => 1
  | .dma _ => N

/-- What each duty's units hand the cell's owner. -/
def payOf (c : Dev nD) (k : Fin 7) : SemLoc sig → sProp 𝕄
  | .reg _ => barPay c k
  | .dma q => if q.val < 9 then totPts m ρ (partQ k.val) c else slotGot m ρ c k

/-- The exchange's schedule: one round per cell of a TensorCore, none elsewhere. -/
def scanRd : Rounds.Schedule (GSem nD τ sig) (Fin 7) 𝕄 where
  duties g r := if r = 0 ∧ g.1.2 = .tc then dutiesOf g.1.1 g.2 else ∅
  unitless _ := False
  amount g _ _ := unitsOf g.2
  payload g _ d := payOf m ρ g.1.1 d g.2
  amount_pos g _ _ _ := by
    obtain ⟨_, sm⟩ := g
    cases sm
    · exact Nat.one_pos
    · exact N_pos

instance scanRd_payload_storable (g : GSem nD τ sig) (r : ℕ) (d : Fin 7) :
    BI.Storable (upEmb : UEmb _ 𝕄) ((scanRd (F := F) m ρ).payload g r d) := by
  obtain ⟨t, sm⟩ := g
  show BI.Storable upEmb (payOf m ρ t.1 d sm)
  cases sm with
  | reg _ => show BI.Storable upEmb (barPay t.1 d); infer_instance
  | dma q =>
    show BI.Storable upEmb (if q.val < 9 then totPts m ρ (partQ d.val) t.1 else slotGot m ρ t.1 d)
    split <;> infer_instance

section Sched
variable (c : Dev nD) (k : Fin 7)

theorem duties_zero (sm : SemLoc sig) : (scanRd (F := F) m ρ).duties ((c : Thread nD τ), sm) 0 = dutiesOf c sm := by
  dsimp only [scanRd]; exact if_pos ⟨rfl, rfl⟩

theorem duties_bar : (scanRd (F := F) m ρ).duties (barCell c) 0 = Finset.univ.filter fun k => Sends c k := duties_zero m ρ c _

theorem duties_send (h : Sends c k) : (scanRd (F := F) m ρ).duties (sendCell c k) 0 = {k} := by
  refine (duties_zero m ρ c _).trans (Finset.ext fun j => ?_)
  have : c.val + k.val < 7 := h
  simp only [dutiesOf, Finset.mem_filter, Finset.mem_univ, true_and, Finset.mem_singleton, Fin.mk.injEq, Fin.ext_iff]
  omega

theorem duties_recv (h : Has c k) : (scanRd (F := F) m ρ).duties (recvCell c k) 0 = {k} := by
  refine (duties_zero m ρ c _).trans (Finset.ext fun j => ?_)
  have : k.val < c.val := h
  simp only [dutiesOf, Finset.mem_filter, Finset.mem_univ, true_and, Finset.mem_singleton, Fin.mk.injEq, Fin.ext_iff]
  omega

theorem duties_send_none (h : ¬ Sends c k) : (scanRd (F := F) m ρ).duties (sendCell c k) 0 = ∅ := by
  refine (duties_zero m ρ c _).trans (Finset.ext fun j => ?_)
  have : ¬ c.val + k.val < 7 := h
  simp only [dutiesOf, Finset.mem_filter, Finset.mem_univ, true_and, Finset.notMem_empty, Fin.mk.injEq, iff_false]
  omega

theorem duties_recv_none (h : ¬ Has c k) : (scanRd (F := F) m ρ).duties (recvCell c k) 0 = ∅ := by
  refine (duties_zero m ρ c _).trans (Finset.ext fun j => ?_)
  have : ¬ k.val < c.val := h
  simp only [dutiesOf, Finset.mem_filter, Finset.mem_univ, true_and, Finset.notMem_empty, Fin.mk.injEq, iff_false]
  omega

theorem duties_later (g : GSem nD τ sig) : ∀ r, 1 ≤ r → (scanRd (F := F) m ρ).duties g r = ∅ :=
  fun r hr => if_neg fun h => by have := h.1; omega

theorem payload_bar : (scanRd (F := F) m ρ).payload (barCell c) 0 k = barPay c k := rfl
theorem payload_send (j : Fin 7) : (scanRd (F := F) m ρ).payload (sendCell c k) 0 j = totPts m ρ (partQ j.val) c :=
  if_pos (by have := k.isLt; show 2 + k.val < 9; omega)
theorem payload_recv (j : Fin 7) : (scanRd (F := F) m ρ).payload (recvCell c k) 0 j = slotGot m ρ c j :=
  if_neg (by show ¬ 9 + k.val < 9; omega)

/-- The barrier round has as many units as there are devices after `c`. -/
theorem card_bar : (Finset.univ.filter fun k => Sends c k).card = 7 - c.val := by revert c; decide

theorem expect_bar : (scanRd (F := F) m ρ).expect (barCell c) 0 = 7 - c.val := by
  show ∑ d ∈ (scanRd (F := F) m ρ).duties (barCell c) 0, (1 : ℕ) = _
  rw [duties_bar, Finset.sum_const, smul_eq_mul, mul_one, card_bar]

theorem expect_send (h : Sends c k) : (scanRd (F := F) m ρ).expect (sendCell c k) 0 = N := by
  show ∑ d ∈ (scanRd (F := F) m ρ).duties (sendCell c k) 0, N = _
  rw [duties_send m ρ c k h, Finset.sum_singleton]

theorem expect_recv (h : Has c k) : (scanRd (F := F) m ρ).expect (recvCell c k) 0 = N := by
  show ∑ d ∈ (scanRd (F := F) m ρ).duties (recvCell c k) 0, N = _
  rw [duties_recv m ρ c k h, Finset.sum_singleton]

theorem rest_send (h : Sends c k) : bigSep ((scanRd (F := F) m ρ).duties (sendCell c k) 0 \ ∅) (fun d => (scanRd (F := F) m ρ).payload (sendCell c k) 0 d)
    = totPts m ρ (partQ k.val) c := by
  rw [duties_send m ρ c k h, Finset.sdiff_empty, bigSep_singleton, payload_send]

theorem rest_recv (h : Has c k) : bigSep ((scanRd (F := F) m ρ).duties (recvCell c k) 0 \ ∅) (fun d => (scanRd (F := F) m ρ).payload (recvCell c k) 0 d)
    = slotGot m ρ c k := by
  rw [duties_recv m ρ c k h, Finset.sdiff_empty, bigSep_singleton, payload_recv]

end Sched

/-! ## What a device owes, and the levels -/

/-- The unit device `c` owes the barrier of the device `k + 1` places before it. -/
def sigT (c : Dev nD) (k : Fin 7) : CellTallies nD τ sig Unit := if Has c k then tallyAt (barCell (dn c k)) () 1 else 0
/-- The units it owes receive cell `k` of the device `k + 1` places after it. -/
def cpyT (c : Dev nD) (k : Fin 7) : CellTallies nD τ sig Unit := if Sends c k then tallyAt (recvCell (up c k) k) () N else 0

/-- The distances from `j` on, and those before `j`. -/
abbrev fromJ (j : ℕ) : Finset (Fin 7) := Finset.univ.filter fun i => j ≤ i.val
abbrev before (j : ℕ) : Finset (Fin 7) := Finset.univ.filter fun i => i.val < j

theorem fromJ_step (k : Fin 7) : fromJ k.val = insert k (fromJ (k.val + 1)) := by revert k; decide
theorem fromJ_notMem (k : Fin 7) : k ∉ fromJ (k.val + 1) := by revert k; decide
theorem fromJ_zero : fromJ 0 = Finset.univ := by decide
theorem fromJ_seven : fromJ 7 = ∅ := by decide
theorem before_step (k : Fin 7) : before (k.val + 1) = insert k (before k.val) := by revert k; decide
theorem before_notMem (k : Fin 7) : k ∉ before k.val := by revert k; decide
theorem before_zero : before 0 = ∅ := by decide
theorem before_seven : before 7 = Finset.univ := by decide

/-- What is still owed of a family from distance `j` on. -/
def owedFrom (f : Fin 7 → CellTallies nD τ sig Unit) (j : ℕ) : CellTallies nD τ sig Unit := ∑ i ∈ fromJ j, f i

theorem owedFrom_step (f : Fin 7 → CellTallies nD τ sig Unit) (k : Fin 7) : owedFrom f k.val = owedFrom f (k.val + 1) + f k := by
  unfold owedFrom; rw [fromJ_step, Finset.sum_insert (fromJ_notMem k), add_comm]
theorem owedFrom_seven (f : Fin 7 → CellTallies nD τ sig Unit) : owedFrom f 7 = 0 := by
  unfold owedFrom; rw [fromJ_seven, Finset.sum_empty]

/-- What device `c` owes at launch. -/
def O₀ (c : Dev nD) : CellTallies nD τ sig Unit := owedFrom (sigT c) 0 + owedFrom (cpyT c) 0

def L (g : GSem nD τ sig) : Finset Unit := if g.1.2 = .tc then {()} else ∅
/-- Barriers at level 1, receive cells at level 2, everything else at 0. -/
def lv (g : GSem nD τ sig) (_ : Unit) : ℕ := match g.2 with
  | .reg _ => 1
  | .dma q => if 9 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem owedFrom_pos {f : Fin 7 → CellTallies nD τ sig Unit} {j : ℕ} {g : GSem nD τ sig} {u : Unit} (h : 0 < owedFrom f j g u) :
    ∃ k, 0 < f k g u := by
  unfold owedFrom at h
  rw [Finset.sum_apply, Finsupp.finsetSum_apply] at h
  obtain ⟨k, -, hk⟩ := Finset.exists_ne_zero_of_sum_ne_zero h.ne'
  exact ⟨k, Nat.pos_of_ne_zero hk⟩

theorem tally_pos {a g : GSem nD τ sig} {n : ℕ} {u : Unit} (h : 0 < (tallyAt a () n : CellTallies nD τ sig Unit) g u) : g = a := by
  by_contra hne
  rw [tallyAt_apply, if_neg (fun h' => hne h'.1)] at h
  exact absurd h (lt_irrefl 0)

theorem cpyT_pos {c : Dev nD} {k : Fin 7} {g : GSem nD τ sig} {u : Unit} (h : 0 < cpyT c k g u) : g = recvCell (up c k) k := by
  unfold cpyT at h
  split at h
  · exact tally_pos h
  · exact absurd h (lt_irrefl 0)

theorem sigT_pos {c : Dev nD} {k : Fin 7} {g : GSem nD τ sig} {u : Unit} (h : 0 < sigT c k g u) : g = barCell (dn c k) := by
  unfold sigT at h
  split at h
  · exact tally_pos h
  · exact absurd h (lt_irrefl 0)

/-- Receive units are owed to TensorCore cells of level 2. -/
theorem owed_copies {c : Dev nD} {j : ℕ} {g : GSem nD τ sig} {u : Unit} (h : 0 < owedFrom (cpyT c) j g u) : g.1.2 = .tc ∧ lv g u = 2 := by
  obtain ⟨k, hk⟩ := owedFrom_pos h
  rw [cpyT_pos hk]
  exact ⟨rfl, if_pos (by show 9 ≤ 9 + k.val; omega)⟩

/-- All that is owed at launch is owed to TensorCore cells of level 1 or 2. -/
theorem owed_start {c : Dev nD} {g : GSem nD τ sig} {u : Unit} (h : 0 < O₀ c g u) : g.1.2 = .tc ∧ 0 < lv g u := by
  unfold O₀ at h
  rw [Pi.add_apply, Finsupp.add_apply] at h
  rcases Nat.eq_zero_or_pos (owedFrom (sigT c) 0 g u) with h0 | h0
  · rw [h0, Nat.zero_add] at h
    obtain ⟨h1, h2⟩ := owed_copies h
    exact ⟨h1, by rw [h2]; exact Nat.two_pos⟩
  · obtain ⟨k, hk⟩ := owedFrom_pos h0
    rw [sigT_pos hk]; exact ⟨rfl, Nat.one_pos⟩

/-- A device may wait on a cell of level at most `a` while all it owes sits above `a`. -/
theorem mayWait_under (c : Dev nD) (sm : SemLoc sig) (a : ℕ) (O : CellTallies nD τ sig Unit) (hs : lv ((c : Thread nD τ), sm) () ≤ a)
    (hO : ∀ g u, 0 < O g u → g.1.2 = .tc ∧ a < lv g u) : (levAts L lv : sProp 𝕄) ⊢ MayWait (c : Thread nD τ) sm () O :=
  MayOwe.of_cut (L := L) (lev := lv) a (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

/-- The pipeline's own waits, at launch and at the end. -/
theorem mayWait_stage (c : Dev nD) (q : DmaSem sig) (hq : q.val < 9) (O : CellTallies nD τ sig Unit) (hO : O = O₀ c ∨ O = 0) :
    (levAts L lv : sProp 𝕄) ⊢ MayWait (c : Thread nD τ) (.dma q) () O := by
  rcases hO with rfl | rfl
  · exact mayWait_under c _ 0 _ (le_of_eq (if_neg (by omega))) fun g u h => owed_start h
  · rw [MayWait_zero]; iintro -; iempintro

/-- A device's barrier waits, owing copies only. -/
theorem mayWait_bar (c : Dev nD) : (levAts L lv : sProp 𝕄) ⊢ MayWait (c : Thread nD τ) (.reg barS) () (owedFrom (cpyT c) 0) :=
  mayWait_under c _ 1 _ le_rfl fun g u h => ⟨(owed_copies h).1, by rw [(owed_copies h).2]; exact Nat.one_lt_two⟩

/-! ## Conjunctions over the distances -/

section Seps
variable {M : Type} [URA M]

/-- The distances still to come, and those done with. -/
def todo (P : Fin 7 → sProp M) (j : ℕ) : sProp M := bigSep (fromJ j) P
def done (P : Fin 7 → sProp M) (j : ℕ) : sProp M := bigSep (before j) P

variable (P : Fin 7 → sProp M)

theorem todo_zero : todo P 0 = bigSep Finset.univ P := by unfold todo; rw [fromJ_zero]
theorem done_seven : done P 7 = bigSep Finset.univ P := by unfold done; rw [before_seven]
theorem todo_seven : todo P 7 = iprop(emp) := by unfold todo; rw [fromJ_seven, bigSep_empty]; rfl
theorem done_zero : done P 0 = iprop(emp) := by unfold done; rw [before_zero, bigSep_empty]; rfl
theorem todo_step (k : Fin 7) : todo P k.val = iprop(P k ∗ todo P (k.val + 1)) := by
  unfold todo; rw [fromJ_step, bigSep_insert (fromJ_notMem k)]; rfl
theorem done_step (k : Fin 7) : done P (k.val + 1) = iprop(P k ∗ done P k.val) := by
  unfold done; rw [before_step, bigSep_insert (before_notMem k)]; rfl

/-- One summand, all the others dropped. -/
theorem bigSep_one {I : Type} [DecidableEq I] {s : Finset I} {i : I} (hi : i ∈ s) (Φ : I → sProp M) : bigSep s Φ ⊢ Φ i := bigSep_elim hi
/-- A set and what a larger set adds to it. -/
theorem bigSep_grow {I : Type} [DecidableEq I] {s t : Finset I} (h : t ⊆ s) (Φ : I → sProp M) : iprop(bigSep t Φ ∗ bigSep (s \ t) Φ) ⊢ bigSep s Φ :=
  Entails.of_eq (bigSep_sdiff_split h).symm
end Seps

end Cert.Scan

end
-- ==== Proof.Steps.lean ====
/-
# The carry exchange: one step of each phase

The kernel's body is five runs of seven conditional steps — signal, barrier wait, copy, receive, send wait — one per
distance `k = 0 … 6`. Each theorem here is one such step for any device and any distance, taken or skipped: from the
phase's state before the step to its state after it, whatever follows.
-/
module

public import proofs.«01_k».proof.Proof.Protocol
public import Idealize.ShloMosaic.Lib.Pipeline.Value

@[expose] public section

set_option maxRecDepth 16384

noncomputable section

namespace Cert.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The records every step may use -/

/-- The kernel has no remote calls: the trivial variant. -/
abbrev 𝒱₀ : Variants := Variants.none

/-- A device's cells: its seven send cells, its seven receive cells, its barrier. -/
abbrev Kind : Type := Fin 7 ⊕ Fin 7 ⊕ Unit

abbrev kSend (k : Fin 7) : Kind := .inl k
abbrev kRecv (k : Fin 7) : Kind := .inr (.inl k)
abbrev kBar : Kind := .inr (.inr ())

/-- Each kind's semaphore, and each device's cell of that kind. -/
def kloc : Kind → SemLoc sig
  | .inl k => .dma (sendQ k)
  | .inr (.inl k) => .dma (recvQ k)
  | .inr (.inr _) => .reg barS
abbrev kcell (p : Dev nD × Kind) : GSem nD τ sig := ((p.1 : Thread nD τ), kloc p.2)

variable (K : Dev nD × Kind → ℕ)

/-- Every cell's invariant, and that every cell is at round 0. -/
def records : sProp 𝕄 :=
  iprop((bigSep Finset.univ fun p : Dev nD × Kind => cellInv ER (scanRd m ρ) (K p) (kcell p))
    ∗ bigSep Finset.univ fun p : Dev nD × Kind => reached ER (kcell p) 0)
instance records_persistent : BI.Persistent (records m ρ K) := by unfold records; infer_instance

/-- The records and the levels. -/
def Ctx : sProp 𝕄 := iprop(records m ρ K ∗ levAts L lv)
instance Ctx_persistent : BI.Persistent (Ctx m ρ K) := by unfold Ctx; infer_instance

theorem ctx_inv (p : Dev nD × Kind) : Ctx m ρ K ⊢ cellInv ER (scanRd m ρ) (K p) (kcell p) := by
  unfold Ctx records
  iintro ⟨⟨HI, -⟩, -⟩
  iapply (bigSep_one (Finset.mem_univ p) fun p : Dev nD × Kind => cellInv ER (scanRd m ρ) (K p) (kcell p)); iexact HI
theorem ctx_reached (p : Dev nD × Kind) : Ctx m ρ K ⊢ reached ER (kcell p) 0 := by
  unfold Ctx records
  iintro ⟨⟨-, HR⟩, -⟩
  iapply (bigSep_one (Finset.mem_univ p) fun p : Dev nD × Kind => (reached ER (kcell p) 0 : sProp 𝕄)); iexact HR
theorem ctx_lev : Ctx m ρ K ⊢ (levAts L lv : sProp 𝕄) := by
  unfold Ctx
  iintro ⟨-, H⟩; iexact H

/-- A device owing `O`, whatever it has waited on so far. -/
def owing (c : Dev nD) (O : CellTallies nD τ sig Unit) : sProp 𝕄 := iprop(∃ W : Waits sig Unit, owes (c : Thread nD τ) O W)

/-- What one copy's worth of its own units is worth to a waiting device. -/
def credS (c : Dev nD) (k : Fin 7) : sProp 𝕄 := cred (tallyAt (sendCell c k) () N)
def credR (c : Dev nD) (k : Fin 7) : sProp 𝕄 := cred (tallyAt (recvCell c k) () N)

/-- A program of one TensorCore of the mesh. -/
abbrev Run (α : Type) : Type 1 := Prog (TpuEff nD τ sig (Elt F) Λ₀ .tc) α

/-- `P` runs on device `c` to `Q`. -/
@[irreducible] def runs {α : Type} (c : Dev nD) (p : Run (F := F) α) (Q : α → sProp 𝕄) : sProp 𝕄 :=
  wp frame (wpE (defs₀ (F := F)) 𝒱₀ (c : Thread nD τ) none) Set.univ p Q

variable {α : Type} {R : Run (F := F) α}

/-! ## Phase one: the barrier signals -/

/-- At distance `k`: the right to pay the barrier `k + 1` places before, and this device's slot `k`; -/
def sigIn (c : Dev nD) (k : Fin 7) : sProp 𝕄 := iprop(dutyTok ER (barCell (dn c k)) 0 k ∗ slotAny c k)
/-- afterwards the slot has been handed over, if there is a device to hand it to. -/
def sigOut (c : Dev nD) (k : Fin 7) : sProp 𝕄 := if Has c k then iprop(emp) else slotAny c k
/-- Before signal `j`. -/
def phA (c : Dev nD) (j : ℕ) : sProp 𝕄 :=
  iprop(owing c (owedFrom (sigT c) j + owedFrom (cpyT c) 0) ∗ todo (sigIn c) j ∗ done (sigOut c) j)

/-- One barrier signal of distance `k`: sent when there is a device that far before, with slot `k`; skipped otherwise. -/
theorem step_signal {Q : α → sProp 𝕄} {X : sProp 𝕄} (c : Dev nD) (k : Fin 7) {cond : BitVec 1} (hc : cond = 1#1 ↔ Has c k) {dev : cond = 1#1 → Dev nD}
    (hd : ∀ h, dev h = dn c k) (h : iprop(Ctx m ρ K ∗ phA c (k.val + 1) ∗ X) ⊢ runs c R Q) :
    iprop(Ctx m ρ K ∗ phA c k.val ∗ X)
      ⊢ runs c (if h : cond = 1#1 then (semSignalWord (dev h) barS 1#32 >>= fun _ => R) else R) Q := by
  unfold runs at h ⊢
  unfold phA at h ⊢
  rw [todo_step, owedFrom_step]
  rw [done_step] at h
  unfold sigOut at h
  by_cases hcond : cond = 1#1
  · rw [dif_pos hcond]
    have hh := hc.mp hcond
    rw [if_pos hh] at h
    rw [hd hcond]
    simp only [semSignalWord, Prog.bind_op, Prog.bind_ret]
    unfold owing sigIn sigT
    rw [if_pos hh]
    iintro ⟨#HC, ⟨⟨%W, HO⟩, ⟨⟨Htok, Hslot⟩, Hin⟩, Hout⟩, HX⟩
    iapply (Rounds.wp_signal 𝒱₀ ER (scanRd m ρ) (c : Thread nD τ) none (dst := (dn c k : Thread nD τ)) (κ := K (dn c k, kBar))
      (r := 0) (d := k) (by rw [duties_bar]; exact Finset.mem_filter.mpr ⟨Finset.mem_univ _, (sends_dn c k).mpr hh⟩) (by show (1 : ℕ) = _; decide) ()
      (owedFrom (sigT c) (k.val + 1) + owedFrom (cpyT c) 0) (by rw [add_right_comm])) $$ [HO Htok Hslot]
    · isplitr; · iapply (ctx_inv m ρ K (dn c k, kBar)); iexact HC
      isplitl [HO]; · iexact HO
      isplitl [Htok]; · iexact Htok
      isplitl [Hslot]
      · rw [payload_bar]; unfold barPay; rw [up_dn]
        isplitl [Hslot]; · iexact Hslot
        iapply (ctx_reached m ρ K (c, kRecv k)); iexact HC
      · iapply (ctx_reached m ρ K (dn c k, kBar)); iexact HC
    iintro HO
    iapply h
    isplitr; · iexact HC
    isplitr [HX]
    · isplitl [HO]; · unfold owing; iexists W; iexact HO
      isplitl [Hin]; · iexact Hin
      isplitr; · iempintro
      iexact Hout
    · iexact HX
  · rw [dif_neg hcond]
    have hh : ¬ Has c k := fun h' => hcond (hc.mpr h')
    rw [if_neg hh] at h
    unfold sigIn sigT
    rw [if_neg hh, add_zero]
    iintro ⟨#HC, ⟨HO, ⟨⟨Htok, Hslot⟩, Hin⟩, Hout⟩, HX⟩
    iapply h
    isplitr; · iexact HC
    isplitr [HX]
    · isplitl [HO]; · iexact HO
      isplitl [Hin]; · iexact Hin
      isplitl [Hslot]; · iexact Hslot
      iexact Hout
    · iexact HX

/-! ## Phase two: the barrier waits -/

/-- The units taken before wait `j`. -/
def taken (c : Dev nD) (j : ℕ) : ℕ := min j (7 - c.val)

/-- Before wait `j`: some set of the devices after `c` has been heard, at least as many as the units taken. -/
def phB (c : Dev nD) (j : ℕ) : sProp 𝕄 :=
  iprop(∃ S : Finset (Fin 7), ⌜(S ⊆ Finset.univ.filter fun k => Sends c k) ∧ taken c j + ((Finset.univ.filter fun k => Sends c k) \ S).card ≤ 7 - c.val⌝
    ∗ owing c (owedFrom (cpyT c) 0) ∗ atPos ER (barCell c) 0 S (taken c j) ∗ bigSep S (barPay c)
    ∗ cred (tallyAt (barCell c) () (7 - c.val - taken c j)))

/-- One barrier wait: for one unit when there is a device `k + 1` places after; skipped otherwise. -/
theorem step_barrier {Q : α → sProp 𝕄} {X : sProp 𝕄} (c : Dev nD) (k : Fin 7) {cond : BitVec 1} (hc : cond = 1#1 ↔ Sends c k)
    (h : iprop(Ctx m ρ K ∗ phB c (k.val + 1) ∗ X) ⊢ runs c R Q) :
    iprop(Ctx m ρ K ∗ phB c k.val ∗ X)
      ⊢ runs c (if h : cond = 1#1 then (semWaitWord barS 1#32 >>= fun _ => R) else R) Q := by
  unfold runs at h ⊢
  unfold phB at h ⊢
  by_cases hcond : cond = 1#1
  · rw [dif_pos hcond]
    have hh : c.val + k.val < 7 := hc.mp hcond
    have t0 : taken c k.val = k.val := by unfold taken; omega
    have t1 : taken c (k.val + 1) = k.val + 1 := by unfold taken; omega
    have t2 : 7 - c.val - k.val = 1 + (7 - c.val - (k.val + 1)) := by omega
    rw [t0, t2, ← tallyAt_add]
    rw [t1] at h
    simp only [semWaitWord, Prog.bind_op, Prog.bind_ret]
    unfold owing
    iintro ⟨#HC, ⟨%S, %hS, ⟨%W, HO⟩, Hat, Hpay, Hcr⟩, HX⟩
    ihave Hcr' := (cred_add _ _).1 $$ Hcr
    icases Hcr' with ⟨Hc1, Hcr⟩
    iapply (Rounds.wp_wait 𝒱₀ ER (scanRd m ρ) (c : Thread nD τ) none (κ := K (c, kBar))
      (wpE_semWait_eq 𝒱₀ (c : Thread nD τ) none Set.univ) (Set.mem_univ _) (cr := Finsupp.single () 1) (O := owedFrom (cpyT c) 0) (W := W)
      {(SemLoc.reg barS, ())} (R := 0) (m := k.val) (T := S) (by rw [Util.total_single]; decide) (image_single_subset _ () 1)) $$ [Hc1 HO Hat]
    · isplitr; · iapply (ctx_inv m ρ K (c, kBar)); iexact HC
      isplitl [Hc1]; · iexact Hc1
      isplitl [HO]; · iexact HO
      isplitr; · iapply (mayWait_bar c); iapply (ctx_lev m ρ K); iexact HC
      iexact Hat
    iintro %S' ⟨%hS', HO, Hat, Hnew⟩
    iapply h
    isplitr; · iexact HC
    isplitr [HX]
    · iexists S'
      isplitr
      · ipureintro
        obtain ⟨h1, h2, h3⟩ := hS'
        rw [expect_bar, duties_bar] at h3
        rw [duties_bar] at h2
        exact ⟨h2, h3⟩
      isplitl [HO]; · unfold owing; iexists _; iexact HO
      isplitl [Hat]; · iexact Hat
      isplitr [Hcr]
      · iapply (bigSep_grow hS'.1 (barPay c))
        isplitl [Hpay]; · iexact Hpay
        iexact Hnew
      iexact Hcr
    · iexact HX
  · rw [dif_neg hcond]
    have hh : ¬ c.val + k.val < 7 := fun h' => hcond (hc.mpr h')
    have t1 : taken c k.val = taken c (k.val + 1) := by unfold taken; omega
    rw [t1]
    exact h

/-! ## Phase three: the copies -/

/-- At distance `k`: the rights to pay both ends of the copy, and what the barrier brought; -/
def cpyIn (c : Dev nD) (k : Fin 7) : sProp 𝕄 :=
  iprop(dutyTok ER (sendCell c k) 0 k ∗ dutyTok ER (recvCell (up c k) k) 0 k ∗ (if Sends c k then barPay c k else iprop(emp)))
/-- afterwards the right to wait for the copy's end, or the part of the total never lent. -/
def cpyOut (c : Dev nD) (k : Fin 7) : sProp 𝕄 := if Sends c k then credS c k else totPts m ρ (partQ k.val) c
/-- Before copy `j`. -/
def phC (c : Dev nD) (j : ℕ) : sProp 𝕄 :=
  iprop(owing c (owedFrom (cpyT c) j) ∗ totPts m ρ (restQ j) c ∗ todo (cpyIn c) j ∗ done (cpyOut m ρ c) j)

theorem totPts_eq (q : PosShare TreeShare) (c : Dev nD) :
    (totPts m ρ q c : sProp 𝕄) = iprop((totM.view.loc (c : Thread nD τ)) ↦[totM.view.set]{q} tot m ρ c) := rfl

/-- What a copy of `c`'s total leaves in the slot is `c`'s total. -/
theorem landed (c : Dev nD) (k : Fin 7) (fd : Buf (Elt F) ((slotM k).view.loc (up c k : Thread nD τ))) :
    (slotPts (up c k) k ((slotM k).view.write (Elt F) fd (totM.view.read (Elt F) (tot m ρ c)) Finset.univ) : sProp 𝕄) ⊢ slotGot m ρ (up c k) k := by
  unfold slotGot
  rw [dn_up]
  iintro H
  iexists ((slotM k).view.write (Elt F) fd (totM.view.read (Elt F) (tot m ρ c)) Finset.univ)
  isplitr
  · ipureintro; exact (View.read_write_univ _ _).trans rfl
  iexact H

/-- One copy of distance `k`: started when there is a device that far after, to its slot `k`; skipped otherwise. -/
theorem step_copy {Q : α → sProp 𝕄} {X : sProp 𝕄} (c : Dev nD) (k : Fin 7) {cond : BitVec 1} (hc : cond = 1#1 ↔ Sends c k) {dev : cond = 1#1 → Dev nD}
    (hd : ∀ h, dev h = up c k)
    {body : cond = 1#1 → Run (F := F) α}
    (hbody : ∀ h, ∃ (hsc : (slotM k : Memref sig (Dev.tc (dev h) : Thread nD τ).2.kind .vmem S1x256 .f32).view.ref.isScScratch = false)
      (hsrc : (totM : Memref sig .tc .vmem S1x256 .f32).view.WordExact) (hdst : (slotM k).view.WordExact)
      (hsem : DmaTarget.Typed .vmem (.dma (recvQ k)) (.remote (Dev.tc (dev h) : Thread nD τ) (slotM k) (.dma (sendQ k)) hsc)),
      body h = (Prog.lift (.enqueueDma totM (.remote (Dev.tc (dev h) : Thread nD τ) (slotM k) (.dma (sendQ k)) hsc) (.dma (recvQ k)) hsrc hdst hsem) >>= fun _ => R))
    (h : iprop(Ctx m ρ K ∗ phC m ρ c (k.val + 1) ∗ X) ⊢ runs c R Q) :
    iprop(Ctx m ρ K ∗ phC m ρ c k.val ∗ X) ⊢ runs c (if h : cond = 1#1 then body h else R) Q := by
  unfold runs at h ⊢
  unfold phC at h ⊢
  rw [todo_step, owedFrom_step]
  rw [done_step] at h
  unfold cpyOut at h
  by_cases hcond : cond = 1#1
  · rw [dif_pos hcond]
    have hh := hc.mp hcond
    rw [if_pos hh] at h
    have hd' := hd hcond
    obtain ⟨hsc', hsrc, hdst, hsem', he⟩ := hbody hcond
    rw [he]
    clear he hbody
    generalize hn : dev hcond = n at hsc' hsem' ⊢
    rw [hn] at hd'
    subst hd'
    simp only [Prog.lift, Prog.bind_op, Prog.bind_ret]
    unfold owing credS at h
    unfold owing cpyIn cpyT
    rw [if_pos hh, if_pos hh]
    unfold barPay slotAny
    iintro ⟨#HC, ⟨⟨%W, HO⟩, Htot, ⟨⟨HtS, HtR, ⟨%fd, Hslot⟩, #Hr⟩, Hin⟩, Hout⟩, HX⟩
    ihave Hs := (tot_split m ρ c k.val).1 $$ Htot
    icases Hs with ⟨Hpart, Htot⟩
    ihave Hpart := (Entails.of_eq (totPts_eq m ρ (partQ k.val) c)) $$ Hpart
    unfold slotPts
    iapply (Rounds.wp_send_pointsTo 𝒱₀ ER (scanRd m ρ) (c : Thread nD τ) none (κ₁ := K (c, kSend k)) (κ₂ := K (up c k, kRecv k))
      (r₁ := 0) (r₂ := 0) (d₁ := k) (d₂ := k) (fd := fd)
      (by rw [duties_send m ρ c k hh]; exact Finset.mem_singleton_self _)
      (by rw [duties_recv m ρ (up c k) k ((has_up c k).mpr hh)]; exact Finset.mem_singleton_self _)
      () () N rfl rfl rfl (owedFrom (cpyT c) (k.val + 1)) rfl (W := W)
      (by rw [payload_send]; exact BI.Entails.refl _)
      (by rw [payload_recv]; exact landed m ρ c k fd)) $$ [Hpart Hslot HO HtS HtR]
    · isplitr; · iapply (ctx_inv m ρ K (c, kSend k)); iexact HC
      isplitr; · iapply (ctx_inv m ρ K (up c k, kRecv k)); iexact HC
      isplitl [Hpart]; · iexact Hpart
      isplitl [Hslot]; · iexact Hslot
      isplitl [HO]; · iexact HO
      isplitl [HtS]; · iexact HtS
      isplitr; · iapply (ctx_reached m ρ K (c, kSend k)); iexact HC
      isplitl [HtR]; · iexact HtR
      iexact Hr
    iintro ⟨HcS, HO⟩
    iapply h
    isplitr; · iexact HC
    isplitr [HX]
    · isplitl [HO]; · iexists W; iexact HO
      isplitl [Htot]; · iexact Htot
      isplitl [Hin]; · iexact Hin
      isplitl [HcS]; · iexact HcS
      iexact Hout
    · iexact HX
  · rw [dif_neg hcond]
    have hh : ¬ Sends c k := fun h' => hcond (hc.mpr h')
    rw [if_neg hh] at h
    unfold cpyT
    rw [if_neg hh, add_zero]
    iintro ⟨#HC, ⟨HO, Htot, ⟨-, Hin⟩, Hout⟩, HX⟩
    ihave Hs := (tot_split m ρ c k.val).1 $$ Htot
    icases Hs with ⟨Hpart, Htot⟩
    iapply h
    isplitr; · iexact HC
    isplitr [HX]
    · isplitl [HO]; · iexact HO
      isplitl [Htot]; · iexact Htot
      isplitl [Hin]; · iexact Hin
      isplitl [Hpart]; · iexact Hpart
      iexact Hout
    · iexact HX

/-! ## Phase four: receiving the totals -/

theorem zero2 : (![0, 0] : Fin 2 → Nat) = fun _ => 0 := by funext i; fin_cases i <;> rfl

/-- The whole row, and the slot read through the landing buffer. -/
abbrev rowR : Rect S1x256 := Rect.unit (s := S1x256) ![0, 0] S1x256.size inb_S1x256_S1x256_0_0

/-- The carry buffer holding `v`. -/
def carPts (c : Dev nD) (v : (cc0_scratch2 : Ref sig .tc).ty.Contents (Elt F)) : sProp 𝕄 :=
  ((c : Thread nD τ).loc cc0_scratch2) ↦{fullShare} v

/-- The carry after the receives of the distances before `j`: the totals received, added up from zero. -/
def carryV (c : Dev nD) : ℕ → FVec F S1x256 .f32
  | 0 => k0_pay4
  | j + 1 => if h : j < 7 then (if Has c ⟨j, h⟩ then addf (carryV c j) (tot m ρ (dn c ⟨j, h⟩)) else carryV c j) else carryV c j

theorem carryV_has (c : Dev nD) (k : Fin 7) (h : Has c k) : carryV m ρ c (k.val + 1) = addf (carryV m ρ c k.val) (tot m ρ (dn c k)) := by
  rw [carryV, dif_pos k.isLt, if_pos h]
theorem carryV_skip (c : Dev nD) (k : Fin 7) (h : ¬ Has c k) : carryV m ρ c (k.val + 1) = carryV m ρ c k.val := by
  rw [carryV, dif_pos k.isLt, if_neg h]

/-- The slot's elements are those a load of the landing buffer at the slot's box reads. -/
theorem slot_set (k : Fin 7) : (commM.access (slotR k)).set ⊆ (slotM k).view.set := by
  simp only [Memref.view_squeeze, View.set_reshape, Memref.view_slice]
  exact Finset.Subset.refl _

/-- The stored sum: the carry and the received row. -/
theorem carry_sum (c : Dev nD) (k : Fin 7) (f : Buf (Elt F) ((slotM k).view.loc (c : Thread nD τ))) (hf : (slotM k).view.read (Elt F) f = tot m ρ (dn c k))
    (v : FVec F S1x256 .f32) : k0_pay5 v ((commM.access (slotR k)).read (Elt F) f) = addf v (tot m ρ (dn c k)) := by
  rw [← hf]
  show shapeCast S1x256 (addf v (shapeCast S1x256 _ _)) _ = _
  rw [shapeCast_self]
  rfl

/-- At distance `k`: the receive cell unused, with the right to wait on it or with the slot never handed over; -/
def rcvIn (c : Dev nD) (k : Fin 7) : sProp 𝕄 :=
  iprop(atPos ER (recvCell c k) 0 ∅ 0 ∗ (if Has c k then credR c k else slotAny c k))
/-- afterwards its counter at zero and the slot are the device's again. -/
def rcvOut (c : Dev nD) (k : Fin 7) : sProp 𝕄 := iprop(semVal (recvCell c k) 0 ∗ slotAny c k)
/-- Before receive `j`. -/
def phD (c : Dev nD) (j : ℕ) : sProp 𝕄 :=
  iprop(owing c 0 ∗ carPts c (carryV m ρ c j) ∗ todo (rcvIn c) j ∗ done (rcvOut c) j)

/-- One receive of distance `k`: when there is a device that far before, wait for its total and add it to the carry. -/
theorem step_receive {Q : α → sProp 𝕄} {X : sProp 𝕄} (c : Dev nD) (k : Fin 7) {cond : BitVec 1} (hc : cond = 1#1 ↔ Has c k)
    {pay : Vec F S1x256 .f32 → Vec F S1x1x256 .f32 → FVec F S1x256 .f32} (hpay : pay = k0_pay5)
    {hsrc : (totM : Memref sig .tc .vmem S1x256 .f32).view.WordExact} {hdst : (slotM k).view.WordExact}
    {hl1 hl3 : carM.view.LoadsAt rowR.toLoadRect} {hl2 : commM.view.LoadsAt (slotR k).toLoadRect}
    {hx : (carM.access rowR).Stores Finset.univ} {hm : (Finset.univ : Finset rowR.shape.Idx) = Finset.univ ∨ ∀ a, rowR.stride a = 1}
    (h : iprop(Ctx m ρ K ∗ phD m ρ c (k.val + 1) ∗ X) ⊢ runs c R Q) :
    iprop(Ctx m ρ K ∗ phD m ρ c k.val ∗ X)
      ⊢ runs c (if h : cond = 1#1 then
          (Prog.lift (.waitDma2 (recvQ k) totM (slotM k) hsrc hdst) >>= fun _ =>
            Prog.lift (.load carM rowR.toLoadRect hl1) >>= fun v160 =>
            Prog.lift (.load commM (slotR k).toLoadRect hl2) >>= fun v161 =>
            Prog.lift (.load carM rowR.toLoadRect hl3) >>= fun _ =>
            Prog.lift (.store carM rowR (pay v160 v161) Finset.univ hx hm) >>= fun _ => R)
          else R) Q := by
  unfold runs at h ⊢
  subst hpay
  unfold phD at h ⊢
  rw [todo_step]
  rw [done_step] at h
  unfold rcvIn rcvOut at h ⊢
  by_cases hcond : cond = 1#1
  · rw [dif_pos hcond]
    have hh := hc.mp hcond
    rw [if_pos hh]
    rw [carryV_has m ρ c k hh] at h
    simp only [Prog.lift, Prog.bind_op, Prog.bind_ret]
    unfold owing credR carPts at h ⊢
    iintro ⟨#HC, ⟨⟨%W, HO⟩, Hcar, ⟨⟨Hat, Hcr⟩, Hin⟩, Hout⟩, HX⟩
    iapply (Rounds.wp_wait_rest_token 𝒱₀ ER (scanRd m ρ) (c : Thread nD τ) none (κ := K (c, kRecv k))
        (wpE_waitDma2_eq 𝒱₀ (c : Thread nD τ) none Set.univ) (Set.mem_univ _) () (O := 0) (W := W) (R := 0) (m := 0) (T := ∅)
        (by rw [Nat.zero_add, expect_recv m ρ c k hh])) $$ [Hcr HO Hat]
    · isplitr; · iapply (ctx_inv m ρ K (c, kRecv k)); iexact HC
      isplitl [Hcr]; · iexact Hcr
      isplitl [HO]; · iexact HO
      isplitr; · rw [MayWait_zero]; iempintro
      iexact Hat
    iintro ⟨HO, Hat, -, Hpay⟩
    ihave Hgot := (Entails.of_eq (rest_recv m ρ c k hh)) $$ Hpay
    unfold slotGot slotPts
    icases Hgot with ⟨%f, %hf, Hslot⟩
    imod (Rounds.cell_close ER (scanRd m ρ) (Set.mem_univ (K (c, kRecv k))) (fun h => h) (R := 0 + 1) (duties_later m ρ (recvCell c k))) $$ [Hat] with Hz
    · isplitr; · iapply (ctx_inv m ρ K (c, kRecv k)); iexact HC
      iexact Hat
    iapply (wp_load_rect 𝒱₀ (c : Thread nD τ) none Set.univ (m := carM) (r := rowR) (Finset.subset_univ _)) $$ Hcar
    iintro Hcar
    iapply (wp_load_rect 𝒱₀ (c : Thread nD τ) none Set.univ (m := commM) (r := slotR k) (slot_set k)) $$ Hslot
    iintro Hslot
    iapply (wp_load_rect 𝒱₀ (c : Thread nD τ) none Set.univ (m := carM) (r := rowR) (Finset.subset_univ _)) $$ Hcar
    iintro Hcar
    iapply (wp_store 𝒱₀ (c : Thread nD τ) none Set.univ (m := carM) (r := rowR) (Finset.subset_univ _)) $$ Hcar
    iintro Hcar
    have hw : ∀ f w, (carM.access rowR).write (Elt F) f w Finset.univ = w := fun f w =>
      Memref.write_access_unit_zero_univ (Elt F) cc0_scratch2 zero2 _ f w
    rw [hw]
    have hr : (carM.access rowR).read (Elt F) (carryV m ρ c k.val) = carryV m ρ c k.val := Memref.readAt_unit_zero (Elt F) cc0_scratch2 zero2 _ _
    rw [hr, carry_sum m ρ c k f hf]
    iapply h
    isplitr; · iexact HC
    isplitr [HX]
    · isplitl [HO]; · iexists _; iexact HO
      isplitl [Hcar]; · iexact Hcar
      isplitl [Hin]; · iexact Hin
      isplitr [Hout]
      · isplitl [Hz]; · iexact Hz
        unfold slotAny slotPts; iexists f; iexact Hslot
      iexact Hout
    · iexact HX
  · rw [dif_neg hcond]
    have hh : ¬ Has c k := fun h' => hcond (hc.mpr h')
    rw [if_neg hh]
    rw [carryV_skip m ρ c k hh] at h
    iintro ⟨#HC, ⟨HO, Hcar, ⟨⟨Hat, Hslot⟩, Hin⟩, Hout⟩, HX⟩
    imod (Rounds.cell_close ER (scanRd m ρ) (Set.mem_univ (K (c, kRecv k))) (fun h => h) (R := 0)
      (fun r _ => by rcases Nat.eq_zero_or_pos r with rfl | hr
                     · exact duties_recv_none m ρ c k hh
                     · exact duties_later m ρ _ r hr)) $$ [Hat] with Hz
    · isplitr; · iapply (ctx_inv m ρ K (c, kRecv k)); iexact HC
      iexact Hat
    iapply h
    isplitr; · iexact HC
    isplitr [HX]
    · isplitl [HO]; · iexact HO
      isplitl [Hcar]; · iexact Hcar
      isplitl [Hin]; · iexact Hin
      isplitr [Hout]
      · isplitl [Hz]; · iexact Hz
        iexact Hslot
      iexact Hout
    · iexact HX

/-! ## Phase five: waiting for the copies to end -/

/-- At distance `k`: the send cell unused, with the right to wait on it or with the part of the total never lent; -/
def sndIn (c : Dev nD) (k : Fin 7) : sProp 𝕄 := iprop(atPos ER (sendCell c k) 0 ∅ 0 ∗ cpyOut m ρ c k)
/-- afterwards its counter at zero and that part of the total are the device's again. -/
def sndOut (c : Dev nD) (k : Fin 7) : sProp 𝕄 := iprop(semVal (sendCell c k) 0 ∗ totPts m ρ (partQ k.val) c)
/-- Before send wait `j`. -/
def phE (c : Dev nD) (j : ℕ) : sProp 𝕄 := iprop(owing c 0 ∗ todo (sndIn m ρ c) j ∗ done (sndOut m ρ c) j)

/-- One send wait of distance `k`: when a copy was started, wait for its end. -/
theorem step_sent {Q : α → sProp 𝕄} {X : sProp 𝕄} (c : Dev nD) (k : Fin 7) {cond : BitVec 1} (hc : cond = 1#1 ↔ Sends c k)
    {hsrc : (totM : Memref sig .tc .vmem S1x256 .f32).view.WordExact} {hdst : (slotM k).view.WordExact}
    (h : iprop(Ctx m ρ K ∗ phE m ρ c (k.val + 1) ∗ X) ⊢ runs c R Q) :
    iprop(Ctx m ρ K ∗ phE m ρ c k.val ∗ X)
      ⊢ runs c (if h : cond = 1#1 then (Prog.lift (.waitDma2 (sendQ k) (slotM k) totM hdst hsrc) >>= fun _ => R) else R) Q := by
  unfold runs at h ⊢
  unfold phE at h ⊢
  rw [todo_step]
  rw [done_step] at h
  unfold sndIn sndOut cpyOut at h ⊢
  by_cases hcond : cond = 1#1
  · rw [dif_pos hcond]
    have hh := hc.mp hcond
    rw [if_pos hh]
    simp only [Prog.lift, Prog.bind_op, Prog.bind_ret]
    unfold owing credS at h ⊢
    iintro ⟨#HC, ⟨⟨%W, HO⟩, ⟨⟨Hat, Hcr⟩, Hin⟩, Hout⟩, HX⟩
    iapply (Rounds.wp_wait_rest_token 𝒱₀ ER (scanRd m ρ) (c : Thread nD τ) none (κ := K (c, kSend k))
        (wpE_waitDma2_eq 𝒱₀ (c : Thread nD τ) none Set.univ) (Set.mem_univ _) () (O := 0) (W := W) (R := 0) (m := 0) (T := ∅)
        (by rw [Nat.zero_add, expect_send m ρ c k hh])) $$ [Hcr HO Hat]
    · isplitr; · iapply (ctx_inv m ρ K (c, kSend k)); iexact HC
      isplitl [Hcr]; · iexact Hcr
      isplitl [HO]; · iexact HO
      isplitr; · rw [MayWait_zero]; iempintro
      iexact Hat
    iintro ⟨HO, Hat, -, Hpay⟩
    ihave Hpart := (Entails.of_eq (rest_send m ρ c k hh)) $$ Hpay
    imod (Rounds.cell_close ER (scanRd m ρ) (Set.mem_univ (K (c, kSend k))) (fun h => h) (R := 0 + 1) (duties_later m ρ (sendCell c k))) $$ [Hat] with Hz
    · isplitr; · iapply (ctx_inv m ρ K (c, kSend k)); iexact HC
      iexact Hat
    iapply h
    isplitr; · iexact HC
    isplitr [HX]
    · isplitl [HO]; · iexists _; iexact HO
      isplitl [Hin]; · iexact Hin
      isplitr [Hout]
      · isplitl [Hz]; · iexact Hz
        iexact Hpart
      iexact Hout
    · iexact HX
  · rw [dif_neg hcond]
    have hh : ¬ Sends c k := fun h' => hcond (hc.mpr h')
    rw [if_neg hh]
    iintro ⟨#HC, ⟨HO, ⟨⟨Hat, Hpart⟩, Hin⟩, Hout⟩, HX⟩
    imod (Rounds.cell_close ER (scanRd m ρ) (Set.mem_univ (K (c, kSend k))) (fun h => h) (R := 0)
      (fun r _ => by rcases Nat.eq_zero_or_pos r with rfl | hr
                     · exact duties_send_none m ρ c k hh
                     · exact duties_later m ρ _ r hr)) $$ [Hat] with Hz
    · isplitr; · iapply (ctx_inv m ρ K (c, kSend k)); iexact HC
      iexact Hat
    iapply h
    isplitr; · iexact HC
    isplitr [HX]
    · isplitl [HO]; · iexact HO
      isplitl [Hin]; · iexact Hin
      isplitr [Hout]
      · isplitl [Hz]; · iexact Hz
        iexact Hpart
      iexact Hout
    · iexact HX

end Cert.Scan

end
-- ==== Proof.Body.lean ====
/-
# The carry exchange: the body, part by part

The kernel's body is printed in five parts. Each theorem runs one part on any device, from the exchange's state before it
to the state after it.
-/
module

public import proofs.«01_k».proof.Proof.Steps

@[expose] public section

set_option maxRecDepth 16384

noncomputable section

namespace Cert.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The conditions and the neighbours, as the kernel computes them -/

/-- Device `c`'s place in the mesh, as a word. -/
abbrev place (c : Dev nD) : BitVec 32 := Scalar.remsi (Scalar.divsi c.word 1#32) 8#32

/-- "My place is at least `k + 1`". -/
abbrev hasBit (c : Dev nD) (k : Fin 7) : BitVec 1 :=
  Scalar.cmpi .ne (Scalar.extui (Scalar.cmpi .sge (place c) (BitVec.ofNat 32 (k.val + 1))) : BitVec 32) 0#32
/-- "My place plus `k + 1` is below eight". -/
abbrev sendsBit (c : Dev nD) (k : Fin 7) : BitVec 1 :=
  Scalar.cmpi .ne (Scalar.extui (Scalar.cmpi .slt (Scalar.addi (place c) (BitVec.ofNat 32 (k.val + 1))) 8#32) : BitVec 32) 0#32

theorem hasBit_iff (c : Dev nD) (k : Fin 7) : hasBit c k = 1#1 ↔ Has c k := by revert c k; decide +kernel
theorem sendsBit_iff (c : Dev nD) (k : Fin 7) : sendsBit c k = 1#1 ↔ Sends c k := by revert c k; decide +kernel

theorem sigCond (c : Dev nD) : (k0_cond1 c = 1#1 ↔ Has c 0) ∧ (k0_cond2 c = 1#1 ↔ Has c 1) ∧ (k0_cond3 c = 1#1 ↔ Has c 2)
    ∧ (k0_cond4 c = 1#1 ↔ Has c 3) ∧ (k0_cond5 c = 1#1 ↔ Has c 4) ∧ (k0_cond6 c = 1#1 ↔ Has c 5) ∧ (k0_cond7 c = 1#1 ↔ Has c 6) := by
  revert c; decide +kernel
theorem cpyCond (c : Dev nD) : (k0_cond15 c = 1#1 ↔ Sends c 0) ∧ (k0_cond16 c = 1#1 ↔ Sends c 1) ∧ (k0_cond17 c = 1#1 ↔ Sends c 2)
    ∧ (k0_cond18 c = 1#1 ↔ Sends c 3) ∧ (k0_cond19 c = 1#1 ↔ Sends c 4) ∧ (k0_cond20 c = 1#1 ↔ Sends c 5) ∧ (k0_cond21 c = 1#1 ↔ Sends c 6) := by
  revert c; decide +kernel

/-- The device each barrier signal names is the one that many places before. -/
theorem sigDev : (∀ c, k0_cond1 c = 1#1 → k0_dev1 c = (dn c 0).val) ∧ (∀ c, k0_cond2 c = 1#1 → k0_dev2 c = (dn c 1).val)
    ∧ (∀ c, k0_cond3 c = 1#1 → k0_dev3 c = (dn c 2).val) ∧ (∀ c, k0_cond4 c = 1#1 → k0_dev4 c = (dn c 3).val)
    ∧ (∀ c, k0_cond5 c = 1#1 → k0_dev5 c = (dn c 4).val) ∧ (∀ c, k0_cond6 c = 1#1 → k0_dev6 c = (dn c 5).val)
    ∧ (∀ c, k0_cond7 c = 1#1 → k0_dev7 c = (dn c 6).val) := by decide +kernel
/-- The device each copy names is the one that many places after. -/
theorem cpyDev : (∀ c, k0_cond15 c = 1#1 → k0_dev8 c = (up c 0).val) ∧ (∀ c, k0_cond16 c = 1#1 → k0_dev9 c = (up c 1).val)
    ∧ (∀ c, k0_cond17 c = 1#1 → k0_dev10 c = (up c 2).val) ∧ (∀ c, k0_cond18 c = 1#1 → k0_dev11 c = (up c 3).val)
    ∧ (∀ c, k0_cond19 c = 1#1 → k0_dev12 c = (up c 4).val) ∧ (∀ c, k0_cond20 c = 1#1 → k0_dev13 c = (up c 5).val)
    ∧ (∀ c, k0_cond21 c = 1#1 → k0_dev14 c = (up c 6).val) := by decide +kernel

variable (K : Dev nD × Kind → ℕ) {α β : Type}

/-! ## The single steps -/

/-- Reading the device's own number. -/
theorem run_dev {Q : β → sProp 𝕄} {P : sProp 𝕄} (c : Dev nD) {f : Dev nD → Run (F := F) β} (h : P ⊢ runs c (f c) Q) :
    P ⊢ runs c (Prog.lift .deviceId >>= f) Q := by
  unfold runs at h ⊢
  simp only [Prog.lift, Prog.bind_op, Prog.bind_ret, wp_deviceId]; exact h

/-- A whole buffer of device `c`. -/
abbrev buf (c : Dev nD) (b : Ref sig .tc) (v : b.ty.Contents (Elt F)) : sProp 𝕄 := ((c : Thread nD τ).loc b) ↦{fullShare} v

/-- A load of a buffer held whole reads its contents. -/
theorem run_load {Q : β → sProp 𝕄} {P P' X : sProp 𝕄} (c : Dev nD) {s : Shape} (M : Memref sig .tc .vmem s .f32) {r : Rect s}
    {hl : M.view.LoadsAt r.toLoadRect} {v : Buf (Elt F) (M.view.loc (c : Thread nD τ))} {w : Vec F r.shape .f32}
    (hv : M.view.readAt (Elt F) r.toLoadRect v = w) {f : Vec F r.shape .f32 → Run (F := F) β}
    (h : iprop(P ∗ P' ∗ (M.view.loc (c : Thread nD τ) ↦{fullShare} v) ∗ X) ⊢ runs c (f w) Q) :
    iprop(P ∗ P' ∗ (M.view.loc (c : Thread nD τ) ↦{fullShare} v) ∗ X) ⊢ runs c (Prog.lift (.load M r.toLoadRect hl) >>= f) Q := by
  unfold runs at h ⊢
  subst hv
  simp only [Prog.lift, Prog.bind_op, Prog.bind_ret]
  iintro ⟨HP, HP', Hb, HX⟩
  iapply (wp_load 𝒱₀ (c : Thread nD τ) none Set.univ (m := M) (Finset.subset_univ _)) $$ Hb
  iintro Hb
  iapply h
  isplitl [HP]; · iexact HP
  isplitl [HP']; · iexact HP'
  isplitl [Hb]; · iexact Hb
  iexact HX

/-- A store of a buffer held whole replaces its contents. -/
theorem run_store {Q : β → sProp 𝕄} {P P' X : sProp 𝕄} (c : Dev nD) {s : Shape} (M : Memref sig .tc .vmem s .f32) {r : Rect s} {w : Vec F r.shape .f32}
    {hx : (M.access r).Stores Finset.univ} {hm : (Finset.univ : Finset r.shape.Idx) = Finset.univ ∨ ∀ a, r.stride a = 1}
    {v v' : Buf (Elt F) (M.view.loc (c : Thread nD τ))} (hv : (M.access r).write (Elt F) v w Finset.univ = v') {R : Run (F := F) β}
    (h : iprop(P ∗ P' ∗ (M.view.loc (c : Thread nD τ) ↦{fullShare} v') ∗ X) ⊢ runs c R Q) :
    iprop(P ∗ P' ∗ (M.view.loc (c : Thread nD τ) ↦{fullShare} v) ∗ X) ⊢ runs c (Prog.lift (.store M r w Finset.univ hx hm) >>= fun _ => R) Q := by
  unfold runs at h ⊢
  subst hv
  simp only [Prog.lift, Prog.bind_op, Prog.bind_ret]
  iintro ⟨HP, HP', Hb, HX⟩
  iapply (wp_store 𝒱₀ (c : Thread nD τ) none Set.univ (m := M) (r := r) (Finset.subset_univ _)) $$ Hb
  iintro Hb
  iapply h
  isplitl [HP]; · iexact HP
  isplitl [HP']; · iexact HP'
  isplitl [Hb]; · iexact Hb
  iexact HX

/-- The end of a part. -/
theorem run_pure {Q : β → sProp 𝕄} {P : sProp 𝕄} (c : Dev nD) {v : β} (h : P ⊢ Q v) : P ⊢ runs c (Pure.pure v) Q := by
  unfold runs
  rw [Prog.pure_eq_ret, wp_ret]
  iintro H
  imodintro
  iapply h; iexact H

/-- One part after another. -/
theorem run_bind {γ : Type} {Q : β → sProp 𝕄} {P : sProp 𝕄} (c : Dev nD) {p : Prog (TpuEff nD τ sig (Elt F) Λ₀ .tc) γ} {f : γ → Run (F := F) β}
    (h : P ⊢ runs c p fun a => runs c (f a) Q) : P ⊢ runs c (p >>= f) Q := by
  unfold runs at h ⊢
  rw [wp_bind]; exact h

/-- The third and fourth of five resources change places. -/
theorem swap {P P' A B X Y : sProp 𝕄} (h : iprop(P ∗ P' ∗ B ∗ A ∗ X) ⊢ Y) : iprop(P ∗ P' ∗ A ∗ B ∗ X) ⊢ Y := by
  iintro ⟨HP, HP', HA, HB, HX⟩
  iapply h
  isplitl [HP]; · iexact HP
  isplitl [HP']; · iexact HP'
  isplitl [HB]; · iexact HB
  isplitl [HA]; · iexact HA
  iexact HX

/-! ## The parts of the body -/

/-- The signals, and the block summed. -/
theorem part1 {Q : _ → sProp 𝕄} {X : sProp 𝕄} (c : Dev nD) (f0 : (cc0_scratch0 : Ref sig .tc).ty.Contents (Elt F))
    (h : iprop(Ctx m ρ K ∗ phA c 7 ∗ buf c cc0_scratch0 f0 ∗ buf c cc0_stg0_0 (xstg m ρ c) ∗ X)
      ⊢ Q ⟨c, place c, SemArray.scalar barS, k0_pay1 (xstg m ρ c)⟩) :
    iprop(Ctx m ρ K ∗ phA c 0 ∗ buf c cc0_stg0_0 (xstg m ρ c) ∗ buf c cc0_scratch0 f0 ∗ X)
      ⊢ runs c (k0_part1 (F := F) xM (Memref.isWhole_whole _) oM (Memref.isWhole_whole _) totM (Memref.isWhole_whole _)
          commM (Memref.isWhole_whole _) carM (Memref.isWhole_whole _) cc0_scratch3 cc0_scratch4) Q := by
  rw [k0_part1_eq_skeleton]; unfold k0_part1_skel
  refine run_dev c ?_
  refine step_signal m ρ K c 0 (sigCond c).1 (dev := fun h => ⟨k0_dev1 c, k0_dev1_lt c h⟩) (fun h => Fin.ext (sigDev.1 c h)) ?_
  refine step_signal m ρ K c 1 (sigCond c).2.1 (dev := fun h => ⟨k0_dev2 c, k0_dev2_lt c h⟩) (fun h => Fin.ext (sigDev.2.1 c h)) ?_
  refine step_signal m ρ K c 2 (sigCond c).2.2.1 (dev := fun h => ⟨k0_dev3 c, k0_dev3_lt c h⟩) (fun h => Fin.ext (sigDev.2.2.1 c h)) ?_
  refine step_signal m ρ K c 3 (sigCond c).2.2.2.1 (dev := fun h => ⟨k0_dev4 c, k0_dev4_lt c h⟩) (fun h => Fin.ext (sigDev.2.2.2.1 c h)) ?_
  refine step_signal m ρ K c 4 (sigCond c).2.2.2.2.1 (dev := fun h => ⟨k0_dev5 c, k0_dev5_lt c h⟩) (fun h => Fin.ext (sigDev.2.2.2.2.1 c h)) ?_
  refine step_signal m ρ K c 5 (sigCond c).2.2.2.2.2.1 (dev := fun h => ⟨k0_dev6 c, k0_dev6_lt c h⟩) (fun h => Fin.ext (sigDev.2.2.2.2.2.1 c h)) ?_
  refine step_signal m ρ K c 6 (sigCond c).2.2.2.2.2.2 (dev := fun h => ⟨k0_dev7 c, k0_dev7_lt c h⟩) (fun h => Fin.ext (sigDev.2.2.2.2.2.2 c h)) ?_
  refine run_load c xM (Memref.readAt_unit_zero (Elt F) cc0_stg0_0 zero2 _ _) ?_
  refine swap ?_
  refine run_load c totM (Memref.readAt_unit_zero (Elt F) cc0_scratch0 zero2 _ _) ?_
  exact run_pure c h

/-- The total stored, and the barrier waits. -/
theorem part2 {Q : _ → sProp 𝕄} {X : sProp 𝕄} (c : Dev nD) (f0 : (cc0_scratch0 : Ref sig .tc).ty.Contents (Elt F))
    (h : ∀ w, iprop(Ctx m ρ K ∗ phB c 7 ∗ buf c cc0_scratch0 (tot m ρ c) ∗ X) ⊢ Q w) :
    iprop(Ctx m ρ K ∗ phB c 0 ∗ buf c cc0_scratch0 f0 ∗ X)
      ⊢ runs c (k0_part2 (F := F) xM (Memref.isWhole_whole _) oM (Memref.isWhole_whole _) totM (Memref.isWhole_whole _)
          commM (Memref.isWhole_whole _) carM (Memref.isWhole_whole _) cc0_scratch3 cc0_scratch4
          (place c) (SemArray.scalar barS) (k0_pay1 (xstg m ρ c))) Q := by
  rw [k0_part2_eq_skeleton]; unfold k0_part2_skel
  refine run_store c totM (v' := tot m ρ c) (Memref.write_access_unit_zero_univ (Elt F) cc0_scratch0 zero2 _ _ _) ?_
  refine step_barrier m ρ K c 0 (sendsBit_iff c 0) ?_
  refine step_barrier m ρ K c 1 (sendsBit_iff c 1) ?_
  refine step_barrier m ρ K c 2 (sendsBit_iff c 2) ?_
  refine step_barrier m ρ K c 3 (sendsBit_iff c 3) ?_
  refine step_barrier m ρ K c 4 (sendsBit_iff c 4) ?_
  refine step_barrier m ρ K c 5 (sendsBit_iff c 5) ?_
  refine step_barrier m ρ K c 6 (sendsBit_iff c 6) ?_
  exact run_pure c (h _)

/-- The copies. -/
theorem part3 {Q : _ → sProp 𝕄} {X : sProp 𝕄} (c : Dev nD) (w : BitVec 32) (h : iprop(Ctx m ρ K ∗ phC m ρ c 7 ∗ X) ⊢ Q k0_pay3) :
    iprop(Ctx m ρ K ∗ phC m ρ c 0 ∗ X)
      ⊢ runs c (k0_part3 (F := F) xM (Memref.isWhole_whole _) oM (Memref.isWhole_whole _) totM (Memref.isWhole_whole _)
          commM (Memref.isWhole_whole _) carM (Memref.isWhole_whole _) cc0_scratch3 cc0_scratch4
          c (place c) w) Q := by
  rw [k0_part3_eq_skeleton]; unfold k0_part3_skel
  refine step_copy m ρ K c 0 (cpyCond c).1 (dev := fun h => ⟨k0_dev8 c, k0_dev8_lt c h⟩) (fun h => Fin.ext (cpyDev.1 c h)) (fun _ => ⟨_, _, _, _, rfl⟩) ?_
  refine step_copy m ρ K c 1 (cpyCond c).2.1 (dev := fun h => ⟨k0_dev9 c, k0_dev9_lt c h⟩) (fun h => Fin.ext (cpyDev.2.1 c h)) (fun _ => ⟨_, _, _, _, rfl⟩) ?_
  refine step_copy m ρ K c 2 (cpyCond c).2.2.1 (dev := fun h => ⟨k0_dev10 c, k0_dev10_lt c h⟩) (fun h => Fin.ext (cpyDev.2.2.1 c h)) (fun _ => ⟨_, _, _, _, rfl⟩) ?_
  refine step_copy m ρ K c 3 (cpyCond c).2.2.2.1 (dev := fun h => ⟨k0_dev11 c, k0_dev11_lt c h⟩) (fun h => Fin.ext (cpyDev.2.2.2.1 c h)) (fun _ => ⟨_, _, _, _, rfl⟩) ?_
  refine step_copy m ρ K c 4 (cpyCond c).2.2.2.2.1 (dev := fun h => ⟨k0_dev12 c, k0_dev12_lt c h⟩) (fun h => Fin.ext (cpyDev.2.2.2.2.1 c h)) (fun _ => ⟨_, _, _, _, rfl⟩) ?_
  refine step_copy m ρ K c 5 (cpyCond c).2.2.2.2.2.1 (dev := fun h => ⟨k0_dev13 c, k0_dev13_lt c h⟩) (fun h => Fin.ext (cpyDev.2.2.2.2.2.1 c h)) (fun _ => ⟨_, _, _, _, rfl⟩) ?_
  refine step_copy m ρ K c 6 (cpyCond c).2.2.2.2.2.2 (dev := fun h => ⟨k0_dev14 c, k0_dev14_lt c h⟩) (fun h => Fin.ext (cpyDev.2.2.2.2.2.2 c h)) (fun _ => ⟨_, _, _, _, rfl⟩) ?_
  exact run_pure c h

/-- The block's own running sums' operand read, the totals received and added up. -/
theorem part4 {Q : _ → sProp 𝕄} {X : sProp 𝕄} (c : Dev nD) (w : FVec F S256x256 .f32) (f2 : (cc0_scratch2 : Ref sig .tc).ty.Contents (Elt F))
    (h : iprop(Ctx m ρ K ∗ (owing c 0 ∗ bigSep Finset.univ (rcvOut c)) ∗ buf c cc0_scratch2 (carryV m ρ c 7) ∗ buf c cc0_stg0_0 (xstg m ρ c) ∗ X)
      ⊢ Q (k0_pay12 w (xstg m ρ c) (carryV m ρ c 7))) :
    iprop(Ctx m ρ K ∗ (owing c 0 ∗ bigSep Finset.univ (rcvIn c)) ∗ buf c cc0_stg0_0 (xstg m ρ c) ∗ buf c cc0_scratch2 f2 ∗ X)
      ⊢ runs c (k0_part4 (F := F) xM (Memref.isWhole_whole _) oM (Memref.isWhole_whole _) totM (Memref.isWhole_whole _)
          commM (Memref.isWhole_whole _) carM (Memref.isWhole_whole _) cc0_scratch3 cc0_scratch4
          (place c) w) Q := by
  rw [k0_part4_eq_skeleton]; unfold k0_part4_skel
  refine run_load c xM (Memref.readAt_unit_zero (Elt F) cc0_stg0_0 zero2 _ _) ?_
  refine swap ?_
  refine run_load c carM (Memref.readAt_unit_zero (Elt F) cc0_scratch2 zero2 _ _) ?_
  refine run_store c carM (v' := carryV m ρ c 0) (Memref.write_access_unit_zero_univ (Elt F) cc0_scratch2 zero2 _ _ _) ?_
  refine (show _ ⊢ iprop(Ctx m ρ K ∗ phD m ρ c 0 ∗ buf c cc0_stg0_0 (xstg m ρ c) ∗ X) from ?_).trans ?_
  · unfold phD carPts
    rw [todo_zero, done_zero]
    iintro ⟨HC, ⟨HO, Hin⟩, Hcar, Hx, HX⟩
    isplitl [HC]; · iexact HC
    isplitr [Hx HX]
    · isplitl [HO]; · iexact HO
      isplitl [Hcar]; · iexact Hcar
      isplitl [Hin]; · iexact Hin
      iempintro
    isplitl [Hx]; · iexact Hx
    iexact HX
  refine step_receive m ρ K c 0 (hasBit_iff c 0) (pay := k0_pay5) rfl ?_
  refine step_receive m ρ K c 1 (hasBit_iff c 1) (pay := k0_pay6) rfl ?_
  refine step_receive m ρ K c 2 (hasBit_iff c 2) (pay := k0_pay7) rfl ?_
  refine step_receive m ρ K c 3 (hasBit_iff c 3) (pay := k0_pay8) rfl ?_
  refine step_receive m ρ K c 4 (hasBit_iff c 4) (pay := k0_pay9) rfl ?_
  refine step_receive m ρ K c 5 (hasBit_iff c 5) (pay := k0_pay10) rfl ?_
  refine step_receive m ρ K c 6 (hasBit_iff c 6) (pay := k0_pay11) rfl ?_
  refine (show _ ⊢ iprop(Ctx m ρ K ∗ (owing c 0 ∗ bigSep Finset.univ (rcvOut c)) ∗ buf c cc0_scratch2 (carryV m ρ c 7)
      ∗ buf c cc0_stg0_0 (xstg m ρ c) ∗ X) from ?_).trans ?_
  · show iprop(Ctx m ρ K ∗ phD m ρ c 7 ∗ buf c cc0_stg0_0 (xstg m ρ c) ∗ X) ⊢ _
    unfold phD carPts
    rw [todo_seven, done_seven]
    iintro ⟨HC, ⟨HO, Hcar, -, Hout⟩, Hx, HX⟩
    isplitl [HC]; · iexact HC
    isplitl [HO Hout]
    · isplitl [HO]; · iexact HO
      iexact Hout
    isplitl [Hcar]; · iexact Hcar
    isplitl [Hx]; · iexact Hx
    iexact HX
  refine run_load c carM (Memref.readAt_unit_zero (Elt F) cc0_scratch2 zero2 _ _) ?_
  exact run_pure c h

/-- The result stored, and the waits for the copies' ends. -/
theorem part5 {Q : _ → sProp 𝕄} {X : sProp 𝕄} (c : Dev nD) (v : FVec F S256x256 .f32) (g : (cc0_stg1_0 : Ref sig .tc).ty.Contents (Elt F))
    (h : iprop(Ctx m ρ K ∗ phE m ρ c 7 ∗ buf c cc0_stg1_0 v ∗ X) ⊢ Q ⟨⟩) :
    iprop(Ctx m ρ K ∗ phE m ρ c 0 ∗ buf c cc0_stg1_0 g ∗ X)
      ⊢ runs c (k0_part5 (F := F) xM (Memref.isWhole_whole _) oM (Memref.isWhole_whole _) totM (Memref.isWhole_whole _)
          commM (Memref.isWhole_whole _) carM (Memref.isWhole_whole _) cc0_scratch3 cc0_scratch4
          (place c) v) Q := by
  rw [k0_part5_eq_skeleton]; unfold k0_part5_skel
  refine run_load c oM (Memref.readAt_unit_zero (Elt F) cc0_stg1_0 zero2 _ _) ?_
  refine run_store c oM (v' := v) (Memref.write_access_unit_zero_univ (Elt F) cc0_stg1_0 zero2 _ _ _) ?_
  refine step_sent m ρ K c 0 (sendsBit_iff c 0) ?_
  refine step_sent m ρ K c 1 (sendsBit_iff c 1) ?_
  refine step_sent m ρ K c 2 (sendsBit_iff c 2) ?_
  refine step_sent m ρ K c 3 (sendsBit_iff c 3) ?_
  refine step_sent m ρ K c 4 (sendsBit_iff c 4) ?_
  refine step_sent m ρ K c 5 (sendsBit_iff c 5) ?_
  refine step_sent m ρ K c 6 (sendsBit_iff c 6) ?_
  exact run_pure c h

end Cert.Scan

end
-- ==== Proof.Run.lean ====
/-
# The carry exchange: the body of the kernel

The parts chained: what one part leaves is what the next begins from. `sound_body` is the whole body on any device.
-/
module

public import proofs.«01_k».proof.Proof.Body

@[expose] public section

set_option maxRecDepth 16384

noncomputable section

namespace Cert.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Kind → ℕ)

/-! ## Between the parts -/

/-- A change of state before a run. -/
theorem run_fupd {β : Type} {Q : β → sProp 𝕄} {P P' : sProp 𝕄} (c : Dev nD) {p : Run (F := F) β} (h : P ⊢ |={Set.univ}=> P') (hr : P' ⊢ runs c p Q) :
    P ⊢ runs c p Q := by
  unfold runs at hr ⊢
  iintro H
  imod h $$ H with H'
  iapply hr; iexact H'

/-- One entailment after another. -/
theorem via {P P' Y : sProp 𝕄} (h : P ⊢ P') (h' : P' ⊢ Y) : P ⊢ Y := h.trans h'

/-- Every summand into its own. -/
theorem each {I : Type} [Fintype I] {Φ Ψ : I → sProp 𝕄} (h : ∀ k, Φ k ⊢ Ψ k) : bigSep Finset.univ Φ ⊢ bigSep Finset.univ Ψ := bigSep_mono fun k _ => h k

/-- The rights to pay both ends of each copy. -/
def cpyToks (c : Dev nD) : sProp 𝕄 :=
  bigSep Finset.univ fun k : Fin 7 => iprop(dutyTok ER (sendCell c k) 0 k ∗ dutyTok ER (recvCell (up c k) k) 0 k)
/-- Every send cell unused; -/
def atSends (c : Dev nD) : sProp 𝕄 := bigSep Finset.univ fun k : Fin 7 => atPos ER (sendCell c k) 0 ∅ 0
/-- every receive cell unused; -/
def atRecvs (c : Dev nD) : sProp 𝕄 := bigSep Finset.univ fun k : Fin 7 => atPos ER (recvCell c k) 0 ∅ 0
/-- the right to wait on the receive cells that a device before it credits. -/
def credRs (c : Dev nD) : sProp 𝕄 := bigSep Finset.univ fun k : Fin 7 => if Has c k then credR c k else iprop(emp)
/-- The barrier cell unused, and the right to wait on it. -/
def barIn (c : Dev nD) : sProp 𝕄 := iprop(atPos ER (barCell c) 0 ∅ 0 ∗ cred (tallyAt (barCell c) () (7 - c.val)))

/-- The exchange's state when device `c` enters. -/
def enter (c : Dev nD) : sProp 𝕄 :=
  iprop(owing c (O₀ c) ∗ bigSep Finset.univ (sigIn c) ∗ barIn c ∗ cpyToks c ∗ atSends c ∗ atRecvs c ∗ credRs c)

/-- Every counter of device `c` at zero. -/
def zeroed (c : Dev nD) : sProp 𝕄 :=
  iprop(semVal (barCell c) 0 ∗ (bigSep Finset.univ fun k : Fin 7 => semVal (sendCell c k) 0) ∗ bigSep Finset.univ fun k : Fin 7 => semVal (recvCell c k) 0)

/-- The result on device `c`: the running sums of its block, each row raised by the carry. -/
def outAt (c : Dev nD) : (cc0_stg1_0 : Ref sig .tc).ty.Contents (Elt F) := k0_pay12 k0_pay3 (xstg m ρ c) (carryV m ρ c 7)

theorem to_signals (c : Dev nD) : iprop(owing c (O₀ c) ∗ bigSep Finset.univ (sigIn c)) ⊢ (phA c 0 : sProp 𝕄) := by
  unfold phA O₀
  rw [todo_zero, done_zero]
  iintro ⟨HO, H⟩
  isplitl [HO]; · iexact HO
  isplitl [H]; · iexact H
  iempintro

theorem to_barrier (c : Dev nD) : iprop(phA c 7 ∗ barIn c) ⊢ (iprop(phB c 0 ∗ bigSep Finset.univ (sigOut c)) : sProp 𝕄) := by
  unfold phA phB barIn
  rw [todo_seven, done_seven, owedFrom_seven, zero_add]
  iintro ⟨⟨HO, -, Hout⟩, Hat, Hcr⟩
  isplitr [Hout]
  · iexists (∅ : Finset (Fin 7))
    isplitr
    · ipureintro
      refine ⟨Finset.empty_subset _, ?_⟩
      rw [Finset.sdiff_empty, card_bar]; unfold taken; omega
    rw [show taken c 0 = 0 from by unfold taken; omega, Nat.sub_zero, bigSep_empty]
    isplitl [HO]; · iexact HO
    isplitl [Hat]; · iexact Hat
    isplitr; · iempintro
    iexact Hcr
  iexact Hout

/-- All the barrier's units taken, every device after `c` has been heard. -/
theorem heard_all (c : Dev nD) {S : Finset (Fin 7)} (h1 : S ⊆ Finset.univ.filter fun k => Sends c k)
    (h2 : taken c 7 + ((Finset.univ.filter fun k => Sends c k) \ S).card ≤ 7 - c.val) : S = Finset.univ.filter fun k => Sends c k := by
  have t : taken c 7 = 7 - c.val := by unfold taken; omega
  refine Finset.Subset.antisymm h1 (Finset.sdiff_eq_empty_iff_subset.mp (Finset.card_eq_zero.mp ?_))
  omega

/-- A conjunction over some is one over all, the others contributing nothing. -/
theorem bigSep_some {M : Type} [URA M] (p : Fin 7 → Prop) [DecidablePred p] (P : Fin 7 → sProp M) :
    bigSep (Finset.univ.filter p) P ⊢ bigSep Finset.univ fun k => if p k then P k else iprop(emp) := by
  rw [bigSep_filter]; exact BI.Entails.refl _

theorem to_copies (c : Dev nD) :
    iprop(Ctx m ρ K ∗ phB c 7 ∗ buf c cc0_scratch0 (tot m ρ c) ∗ cpyToks c)
      ⊢ (|={Set.univ}=> iprop(phC m ρ c 0 ∗ semVal (barCell c) 0) : sProp 𝕄) := by
  unfold phB phC cpyToks
  rw [todo_zero, done_zero]
  iintro ⟨#HC, ⟨%S, %hS, HO, Hat, Hpay, -⟩, Hb, Htk⟩
  have hS' := heard_all c hS.1 hS.2
  subst hS'
  have t7 : taken c 7 = 7 - c.val := by unfold taken; omega
  rw [t7]
  imod (Rounds.fupd_skip ER (scanRd m ρ) (g := barCell c) (κ := K (c, kBar)) (R := 0) (by rw [duties_bar])
    (by rw [expect_bar]) (Set.mem_univ _)) $$ [Hat] with ⟨Hat, -⟩
  · isplitr; · iapply (ctx_inv m ρ K (c, kBar)); iexact HC
    iexact Hat
  imod (Rounds.cell_close ER (scanRd m ρ) (Set.mem_univ (K (c, kBar))) (fun h => h) (R := 0 + 1) (duties_later m ρ (barCell c))) $$ [Hat] with Hz
  · isplitr; · iapply (ctx_inv m ρ K (c, kBar)); iexact HC
    iexact Hat
  imodintro
  isplitr [Hz]
  · isplitl [HO]; · iexact HO
    isplitl [Hb]
    · unfold totPts restQ
      simp only [Memref.view_whole, View.set_whole]
      iexact Hb
    isplitl
    · ihave Hp := (bigSep_some (fun k => Sends c k) (barPay c)) $$ Hpay
      have hj : iprop((bigSep Finset.univ fun k : Fin 7 => iprop(dutyTok ER (sendCell c k) 0 k ∗ dutyTok ER (recvCell (up c k) k) 0 k))
          ∗ bigSep Finset.univ fun k : Fin 7 => if Sends c k then barPay c k else iprop(emp)) ⊢ (bigSep Finset.univ (cpyIn c) : sProp 𝕄) := by
        rw [← bigSep_sep']
        refine each fun k => ?_
        unfold cpyIn
        iintro ⟨⟨H1, H2⟩, H3⟩
        isplitl [H1]; · iexact H1
        isplitl [H2]; · iexact H2
        iexact H3
      iapply hj
      isplitl [Htk]; · iexact Htk
      iexact Hp
    iempintro
  iexact Hz

theorem to_receives (c : Dev nD) :
    iprop(phC m ρ c 7 ∗ bigSep Finset.univ (sigOut c) ∗ atRecvs c ∗ credRs c)
      ⊢ (iprop((owing c 0 ∗ bigSep Finset.univ (rcvIn c)) ∗ totPts m ρ (restQ 7) c ∗ bigSep Finset.univ (cpyOut m ρ c)) : sProp 𝕄) := by
  unfold phC atRecvs credRs
  rw [todo_seven, done_seven, owedFrom_seven]
  have hj : iprop(bigSep Finset.univ (sigOut c) ∗ (bigSep Finset.univ fun k : Fin 7 => atPos ER (recvCell c k) 0 ∅ 0)
      ∗ bigSep Finset.univ fun k : Fin 7 => if Has c k then credR c k else iprop(emp)) ⊢ (bigSep Finset.univ (rcvIn c) : sProp 𝕄) := by
    rw [← bigSep_sep', ← bigSep_sep']
    refine each fun k => ?_
    unfold sigOut rcvIn
    by_cases h : Has c k
    · rw [if_pos h, if_pos h, if_pos h]
      iintro ⟨-, H1, H2⟩
      isplitl [H1]; · iexact H1
      iexact H2
    · rw [if_neg h, if_neg h, if_neg h]
      iintro ⟨H2, H1, -⟩
      isplitl [H1]; · iexact H1
      iexact H2
  iintro ⟨⟨HO, Ht, -, Hout⟩, Hs, Hr⟩
  isplitl [HO Hs Hr]
  · isplitl [HO]; · iexact HO
    iapply hj
    isplitl [Hs]; · iexact Hs
    iexact Hr
  isplitl [Ht]; · iexact Ht
  iexact Hout

theorem to_ends (c : Dev nD) : iprop(owing c 0 ∗ atSends c ∗ bigSep Finset.univ (cpyOut m ρ c)) ⊢ (phE m ρ c 0 : sProp 𝕄) := by
  unfold phE atSends
  rw [todo_zero, done_zero]
  unfold sndIn
  rw [bigSep_sep']
  iintro ⟨HO, H⟩
  isplitl [HO]; · iexact HO
  isplitl [H]; · iexact H
  iempintro

/-- The parts of the total come together again. -/
theorem tot_rejoin (c : Dev nD) : ∀ j : ℕ, j ≤ 7 →
    (iprop(done (fun k => totPts m ρ (partQ k.val) c) j ∗ totPts m ρ (restQ j) c) ⊢ (totPts m ρ (restQ 0) c : sProp 𝕄))
  | 0, _ => by rw [done_zero]; iintro ⟨-, H⟩; iexact H
  | j + 1, h => by
    refine via ?_ (tot_rejoin c j (by omega))
    rw [show j + 1 = (⟨j, by omega⟩ : Fin 7).val + 1 from rfl, done_step]
    iintro ⟨⟨Hp, Hd⟩, Hr⟩
    isplitl [Hd]; · iexact Hd
    iapply (tot_split m ρ c j).2
    isplitl [Hp]; · iexact Hp
    iexact Hr

theorem to_exit (c : Dev nD) :
    iprop(phE m ρ c 7 ∗ totPts m ρ (restQ 7) c ∗ bigSep Finset.univ (rcvOut c) ∗ semVal (barCell c) 0)
      ⊢ (iprop(owing c 0 ∗ zeroed c ∗ buf c cc0_scratch0 (tot m ρ c) ∗ bigSep Finset.univ (slotAny c)) : sProp 𝕄) := by
  unfold phE zeroed
  rw [todo_seven, done_seven]
  unfold sndOut rcvOut
  rw [bigSep_sep', bigSep_sep']
  iintro ⟨⟨HO, -, HzS, Hp⟩, Hr, ⟨HzR, Hsl⟩, HzB⟩
  isplitl [HO]; · iexact HO
  isplitl [HzS HzR HzB]
  · isplitl [HzB]; · iexact HzB
    isplitl [HzS]; · iexact HzS
    iexact HzR
  isplitr [Hsl]
  · have hj := tot_rejoin m ρ c 7 le_rfl
    rw [done_seven] at hj
    have hb : (totPts m ρ (restQ 0) c : sProp 𝕄) ⊢ buf c cc0_scratch0 (tot m ρ c) := by
      unfold totPts restQ
      simp only [Memref.view_whole, View.set_whole]
      exact BI.Entails.refl _
    iapply hb
    iapply hj
    isplitl [Hp]; · iexact Hp
    iexact Hr
  iexact Hsl

/-! ## The whole body -/

set_option maxHeartbeats 800000 in
/-- The body, from the state a device enters with and its block staged to every counter at zero and its result staged. -/
theorem sound_body {Q : PUnit → sProp 𝕄} (c : Dev nD) (f0 : (cc0_scratch0 : Ref sig .tc).ty.Contents (Elt F))
    (f2 : (cc0_scratch2 : Ref sig .tc).ty.Contents (Elt F)) (g : (cc0_stg1_0 : Ref sig .tc).ty.Contents (Elt F))
    (h : iprop((owing c 0 ∗ zeroed c ∗ buf c cc0_scratch0 (tot m ρ c) ∗ bigSep Finset.univ (slotAny c))
        ∗ buf c cc0_scratch2 (carryV m ρ c 7) ∗ buf c cc0_stg0_0 (xstg m ρ c) ∗ buf c cc0_stg1_0 (outAt m ρ c)) ⊢ Q ⟨⟩) :
    iprop(Ctx m ρ K ∗ enter c ∗ buf c cc0_scratch0 f0 ∗ buf c cc0_scratch2 f2 ∗ buf c cc0_stg0_0 (xstg m ρ c) ∗ buf c cc0_stg1_0 g)
      ⊢ runs c (cc0_body (F := F) xM (Memref.isWhole_whole _) oM (Memref.isWhole_whole _) totM (Memref.isWhole_whole _)
          commM (Memref.isWhole_whole _) carM (Memref.isWhole_whole _) cc0_scratch3 cc0_scratch4) Q := by
  rw [cc0_body_eq_skeleton]; unfold cc0_body_skel
  refine via (P' := iprop(Ctx m ρ K ∗ phA c 0 ∗ buf c cc0_stg0_0 (xstg m ρ c) ∗ buf c cc0_scratch0 f0
    ∗ (barIn c ∗ cpyToks c ∗ atSends c ∗ atRecvs c ∗ credRs c ∗ buf c cc0_scratch2 f2 ∗ buf c cc0_stg1_0 g))) ?_ ?_
  · unfold enter
    iintro ⟨#HC, ⟨HO, Hs, Hb, Ht, HS, HR, Hc⟩, H0, H2, Hx, Ho⟩
    isplitr; · iexact HC
    isplitl [HO Hs]
    · iapply (to_signals c)
      isplitl [HO]; · iexact HO
      iexact Hs
    isplitl [Hx]; · iexact Hx
    isplitl [H0]; · iexact H0
    isplitl [Hb]; · iexact Hb
    isplitl [Ht]; · iexact Ht
    isplitl [HS]; · iexact HS
    isplitl [HR]; · iexact HR
    isplitl [Hc]; · iexact Hc
    isplitl [H2]; · iexact H2
    iexact Ho
  refine run_bind c (part1 m ρ K c f0 ?_)
  refine via (P' := iprop(Ctx m ρ K ∗ phB c 0 ∗ buf c cc0_scratch0 f0
    ∗ (bigSep Finset.univ (sigOut c) ∗ buf c cc0_stg0_0 (xstg m ρ c) ∗ cpyToks c ∗ atSends c ∗ atRecvs c ∗ credRs c ∗ buf c cc0_scratch2 f2 ∗ buf c cc0_stg1_0 g))) ?_ ?_
  · iintro ⟨#HC, HA, H0, Hx, Hb, Hrest⟩
    ihave HB := (to_barrier c) $$ [HA Hb]
    · isplitl [HA]; · iexact HA
      iexact Hb
    icases HB with ⟨HB, Hs⟩
    isplitr; · iexact HC
    isplitl [HB]; · iexact HB
    isplitl [H0]; · iexact H0
    isplitl [Hs]; · iexact Hs
    isplitl [Hx]; · iexact Hx
    iexact Hrest
  refine run_bind c (part2 m ρ K c f0 fun w => ?_)
  refine run_fupd c (P' := iprop(Ctx m ρ K ∗ phC m ρ c 0
    ∗ (semVal (barCell c) 0 ∗ bigSep Finset.univ (sigOut c) ∗ buf c cc0_stg0_0 (xstg m ρ c) ∗ atSends c ∗ atRecvs c ∗ credRs c ∗ buf c cc0_scratch2 f2 ∗ buf c cc0_stg1_0 g))) ?_ ?_
  · iintro ⟨#HC, HB, H0, Hs, Hx, Ht, Hrest⟩
    imod (to_copies m ρ K c) $$ [HB H0 Ht] with ⟨HCp, Hz⟩
    · isplitr; · iexact HC
      isplitl [HB]; · iexact HB
      isplitl [H0]; · iexact H0
      iexact Ht
    imodintro
    isplitr; · iexact HC
    isplitl [HCp]; · iexact HCp
    isplitl [Hz]; · iexact Hz
    isplitl [Hs]; · iexact Hs
    isplitl [Hx]; · iexact Hx
    iexact Hrest
  refine run_bind c (part3 m ρ K c w ?_)
  refine via (P' := iprop(Ctx m ρ K ∗ (owing c 0 ∗ bigSep Finset.univ (rcvIn c)) ∗ buf c cc0_stg0_0 (xstg m ρ c) ∗ buf c cc0_scratch2 f2
    ∗ (totPts m ρ (restQ 7) c ∗ bigSep Finset.univ (cpyOut m ρ c) ∗ semVal (barCell c) 0 ∗ atSends c ∗ buf c cc0_stg1_0 g))) ?_ ?_
  · iintro ⟨#HC, HCp, Hz, Hs, Hx, HS, HR, Hc, H2, Ho⟩
    ihave HD := (to_receives m ρ c) $$ [HCp Hs HR Hc]
    · isplitl [HCp]; · iexact HCp
      isplitl [Hs]; · iexact Hs
      isplitl [HR]; · iexact HR
      iexact Hc
    icases HD with ⟨HD, Ht, Hout⟩
    isplitr; · iexact HC
    isplitl [HD]; · iexact HD
    isplitl [Hx]; · iexact Hx
    isplitl [H2]; · iexact H2
    isplitl [Ht]; · iexact Ht
    isplitl [Hout]; · iexact Hout
    isplitl [Hz]; · iexact Hz
    isplitl [HS]; · iexact HS
    iexact Ho
  refine run_bind c (part4 m ρ K c k0_pay3 f2 ?_)
  refine via (P' := iprop(Ctx m ρ K ∗ phE m ρ c 0 ∗ buf c cc0_stg1_0 g
    ∗ (totPts m ρ (restQ 7) c ∗ bigSep Finset.univ (rcvOut c) ∗ semVal (barCell c) 0 ∗ buf c cc0_scratch2 (carryV m ρ c 7) ∗ buf c cc0_stg0_0 (xstg m ρ c)))) ?_ ?_
  · iintro ⟨#HC, ⟨HO, Hr⟩, H2, Hx, Ht, Hout, Hz, HS, Ho⟩
    isplitr; · iexact HC
    isplitl [HO HS Hout]
    · iapply (to_ends m ρ c)
      isplitl [HO]; · iexact HO
      isplitl [HS]; · iexact HS
      iexact Hout
    isplitl [Ho]; · iexact Ho
    isplitl [Ht]; · iexact Ht
    isplitl [Hr]; · iexact Hr
    isplitl [Hz]; · iexact Hz
    isplitl [H2]; · iexact H2
    iexact Hx
  refine run_bind c (part5 m ρ K c _ g ?_)
  refine run_pure c (via ?_ h)
  iintro ⟨-, HE, Ho, Ht, Hr, Hz, H2, Hx⟩
  isplitl [HE Ht Hr Hz]
  · iapply (to_exit m ρ c)
    isplitl [HE]; · iexact HE
    isplitl [Ht]; · iexact Ht
    isplitl [Hr]; · iexact Hr
    iexact Hz
  isplitl [H2]; · iexact H2
  isplitl [Hx]; · iexact Hx
  iexact Ho

/-! ## The landing buffer, whole and slot by slot -/

theorem slot_mem (k : Fin 7) (i : S7x1x256.Idx) : i ∈ ((slotM k).view.set : Finset S7x1x256.Idx) ↔ (i 0).val = k.val := by
  have e : ((slotM k).view.set : Finset S7x1x256.Idx) = (slotR k).set := by
    simp only [Memref.view_squeeze, View.set_reshape, Memref.view_slice]
    exact View.set_slice_whole _ _
  rw [e, Rect.mem_set_unit]
  constructor
  · intro h
    have h0 := h 0
    change k.val ≤ (i 0).val ∧ (i 0).val < k.val + 1 at h0
    omega
  · intro h a
    fin_cases a
    · change k.val ≤ (i 0).val ∧ (i 0).val < k.val + 1; omega
    · exact ⟨Nat.zero_le _, by have := (i 1).isLt; show (i 1).val < 0 + 1; change (i 1).val < 1 at this; omega⟩
    · exact ⟨Nat.zero_le _, by have := (i 2).isLt; show (i 2).val < 0 + 256; change (i 2).val < 256 at this; omega⟩

/-- The slots, as sets of the landing buffer's places. -/
abbrev slotSet (c : Dev nD) (k : Fin 7) : Finset (Idx ((c : Thread nD τ).loc cc0_scratch1)) := (slotM k).view.set

theorem slots_disjoint (c : Dev nD) : ∀ k ∈ (Finset.univ : Finset (Fin 7)), ∀ j ∈ (Finset.univ : Finset (Fin 7)), k ≠ j → Disjoint (slotSet c k) (slotSet c j) := by
  intro k _ j _ hkj
  rw [Finset.disjoint_left]
  intro i hi hj
  exact hkj (Fin.ext (((slot_mem k i).mp hi).symm.trans ((slot_mem j i).mp hj)))

theorem slots_cover (c : Dev nD) : (Finset.univ : Finset (Fin 7)).biUnion (slotSet c) = Finset.univ := by
  refine Finset.eq_univ_of_forall fun i => Finset.mem_biUnion.mpr ?_
  have hi : ((i : S7x1x256.Idx) 0).val < 7 := ((i : S7x1x256.Idx) 0).isLt
  exact ⟨⟨_, hi⟩, Finset.mem_univ _, (slot_mem ⟨_, hi⟩ i).mpr rfl⟩

theorem comm_split (c : Dev nD) (f : (cc0_scratch1 : Ref sig .tc).ty.Contents (Elt F)) :
    (buf c cc0_scratch1 f : sProp 𝕄) ⊢ bigSep Finset.univ (slotAny c) := by
  unfold buf
  rw [← slots_cover c, pointsTo_biUnion _ _ (slots_disjoint c)]
  refine each fun k => ?_
  unfold slotAny slotPts
  iintro H
  iexists f
  iexact H

theorem comm_join (c : Dev nD) : (bigSep Finset.univ (slotAny c) : sProp 𝕄) ⊢ iprop(∃ f, buf c cc0_scratch1 f) := by
  unfold slotAny
  refine via (BI.bigSep_exists_pi Finset.univ (fun (k : Fin 7) f => (slotPts c k f : sProp 𝕄))) ?_
  unfold slotPts
  iintro ⟨%fs, H⟩
  have hj := pointsTo_biUnion_join (Ix := Unit) (Name := ℕ) (U := UU) (Lvl := ℕ) (q := fullShare) (Finset.univ : Finset (Fin 7)) (slotSet c)
    (fun k => (fs k : Buf (Elt F) ((c : Thread nD τ).loc cc0_scratch1))) (fs 0) (slots_disjoint c)
  rw [slots_cover c] at hj
  ihave H' := hj $$ H
  icases H' with ⟨%g, -, Hg⟩
  iexists g
  iexact Hg

end Cert.Scan

end
-- ==== Proof.Launch.lean ====
/-
# The carry exchange: the launch

Each device's kernel is given its own counters and the rights to pay its neighbours' cells, all dealt out at once from
the start of the whole mesh; the body is `sound_body`; and every run of the program on the eight devices ends, with every
counter at zero, the block of `x` unchanged and the result array written from the staged result.
-/
module

public import proofs.«01_k».proof.Proof.Run
public import proofs.«01_k».proof.Proof.Gen.KernelIdeal.Points
public import Idealize.ShloMosaic.Lib.Pipeline.CollectiveSegs

@[expose] public section

set_option maxRecDepth 16384

noncomputable section

namespace Cert.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

theorem one_point : cfg0.N = 1 := by decide
/-- The grid's one point. -/
def pt : Fin cfg0.N := ⟨0, by rw [one_point]; decide⟩
theorem pt_only (t : Fin cfg0.N) : t = pt := by
  have h := t.isLt
  have h1 := one_point
  exact Fin.ext (by show t.val = 0; omega)

/-- What stays with device `c` of the exchange's ghost state: its own cells, and the rights to pay its neighbours'. -/
def dealt (c : Dev nD) : sProp 𝕄 :=
  iprop(atPos ER (barCell c) 0 ∅ 0 ∗ atSends c ∗ atRecvs c ∗ (bigSep Finset.univ fun k : Fin 7 => dutyTok ER (barCell (dn c k)) 0 k) ∗ cpyToks c)

/-- That, with every cell's record. -/
def share (c : Dev nD) : sProp 𝕄 := iprop(∃ K, records m ρ K ∗ dealt c)

/-- What device `c` enters its kernel with, besides memory. -/
def start (c : Dev nD) : sProp 𝕄 :=
  iprop(share m ρ c ∗ cred (tallyAt (barCell c) () (7 - c.val)) ∗ credRs c ∗ levAts L lv)

/-- The three scratch buffers, at any contents. -/
def scratch (c : Dev nD) : sProp 𝕄 :=
  iprop((∃ f, buf c cc0_scratch0 f) ∗ (∃ f, buf c cc0_scratch1 f) ∗ (∃ f, buf c cc0_scratch2 f))

def Φ₀ (c : Dev nD) : sProp 𝕄 := iprop(start m ρ c ∗ scratch c)
def Φ₁ (c : Dev nD) : sProp 𝕄 := iprop(zeroed c ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem both_windows (Φ : Fin cfg0.W → sProp 𝕄) : bigSep Finset.univ Φ = iprop(Φ (0 : Fin 2) ∗ Φ (1 : Fin 2)) := bigSep_W0 Φ

theorem whole_owned (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev staged (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def pre (c : Dev nD) : sProp 𝕄 :=
  iprop(Φ₀ m ρ c ∗ (dats m ρ 0 c).owesAt () pt.castSucc
    ∗ (∃ d, staged c cc0_stg0_0 ((dats m ρ 0 c).before (0 : Fin 2) pt d))
    ∗ (∃ d, staged c cc0_stg1_0 ((dats m ρ 0 c).before (1 : Fin 2) pt d)))
def post (c : Dev nD) : sProp 𝕄 :=
  iprop(Φ₁ c ∗ (dats m ρ 0 c).owesAt () pt.succ ∗ staged c cc0_stg0_0 (xstg m ρ c) ∗ staged c cc0_stg1_0 (outAt m ρ c))

/-- The block staged before the body is the device's block of `x`. -/
theorem block_staged (c : Dev nD) (d) : (dats m ρ 0 c).before (0 : Fin 2) pt d = xstg m ρ c := by
  unfold Dat.before; rw [if_pos (fetch0_0 pt)]; rfl

theorem to_post (c : Dev nD) :
    iprop((owing c 0 ∗ zeroed c ∗ buf c cc0_scratch0 (tot m ρ c) ∗ bigSep Finset.univ (slotAny c))
        ∗ buf c cc0_scratch2 (carryV m ρ c 7) ∗ buf c cc0_stg0_0 (xstg m ρ c) ∗ buf c cc0_stg1_0 (outAt m ρ c)) ⊢ (post m ρ c : sProp 𝕄) := by
  unfold post Φ₁ scratch Dat.owesAt Pipeline.owesWithin owing
  rw [show (dats m ρ 0 c).owed pt.succ = 0 from rfl]
  iintro ⟨⟨⟨%W, HO⟩, Hz, H0, H1⟩, H2, Hx, Ho⟩
  ihave H1' := (comm_join c) $$ H1
  isplitl [Hz H0 H1' H2]
  · isplitl [Hz]; · iexact Hz
    isplitl [H0]; · iexists _; iexact H0
    isplitl [H1']; · iexact H1'
    iexists _; iexact H2
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Ho

theorem body_runs (c : Dev nD) :
    (pre m ρ c : sProp 𝕄) ⊢ runs c (cc0_body (F := F) xM (Memref.isWhole_whole _) oM (Memref.isWhole_whole _) totM (Memref.isWhole_whole _)
          commM (Memref.isWhole_whole _) carM (Memref.isWhole_whole _) cc0_scratch3 cc0_scratch4) (fun _ => post m ρ c) := by
  unfold pre Φ₀ start share dealt scratch Dat.owesAt Pipeline.owesWithin
  rw [show (dats m ρ 0 c).owed pt.castSucc = O₀ c from rfl]
  iintro ⟨⟨⟨⟨%K, #HR, HaB, HaS, HaR, HtB, HtC⟩, HcB, HcR, #Hlev⟩, ⟨%f0, H0⟩, ⟨%f1, H1⟩, ⟨%f2, H2⟩⟩, ⟨%W, -, HO⟩, ⟨%d, %x, %hx, Hx⟩, ⟨%e, %g, -, Ho⟩⟩
  have hx' : x = xstg m ρ c := hx.trans (block_staged m ρ c d)
  subst hx'
  ihave Hsl := (comm_split c f1) $$ H1
  iapply (sound_body m ρ K c f0 f2 g (Q := fun _ => post m ρ c) (to_post m ρ c))
  isplitr
  · unfold Ctx
    isplitl; · iexact HR
    iexact Hlev
  isplitl [HO HaB HaS HaR HtB HtC HcB HcR Hsl]
  · unfold enter owing barIn sigIn
    isplitl [HO]; · iexists W; iexact HO
    isplitl [HtB Hsl]
    · rw [bigSep_sep']
      isplitl [HtB]; · iexact HtB
      iexact Hsl
    isplitl [HaB HcB]
    · isplitl [HaB]; · iexact HaB
      iexact HcB
    isplitl [HtC]; · iexact HtC
    isplitl [HaS]; · iexact HaS
    isplitl [HaR]; · iexact HaR
    iexact HcR
  isplitl [H0]; · iexact H0
  isplitl [H2]; · iexact H2
  isplitl [Hx]; · iexact Hx
  iexact Ho

set_option maxRecDepth 4000 in
theorem body_obligation (c : Dev nD) : BodyObligation (dats (F := F) m ρ 0 c) (defs₀ (F := F)) 𝒱₀ () Set.univ := fun t => by
  rw [pt_only t]
  rw [both_windows, both_windows]
  simp only [whole_owned]
  have h := body_runs m ρ c
  unfold runs at h
  exact h

/-! ## The launch -/

/-- The kernel's own semaphores: seven for sending, seven for receiving. -/
abbrev osem : Fin 7 ⊕ Fin 7 → SemLoc sig
  | .inl k => .dma (sendQ k)
  | .inr k => .dma (recvQ k)

theorem ownSemFacts : Pipeline.OwnSemFacts cfg0.spec osem := by decide

theorem share_whole (c : Dev nD) (w : Fin cfg0.W) : (dats m ρ 0 c).share w = fullShare := by unfold Dat.share; split <;> rfl

theorem kloc_injective : Function.Injective kloc := by decide
theorem kcell_injective : Function.Injective kcell := by
  rintro ⟨c, a⟩ ⟨d, b⟩ h
  have h1 : c = d := congrArg (fun g : GSem nD τ sig => g.1.1) h
  have h2 : a = b := kloc_injective (congrArg Prod.snd h)
  rw [h1, h2]
/-- Every cell of the exchange, -/
def allCells : Finset (GSem nD τ sig) := Finset.univ.map ⟨kcell, kcell_injective⟩

/-- and every right to pay one: a cell and, for the barrier, a distance. -/
abbrev tokOf (p : Dev nD × (Fin 7 ⊕ Fin 7 ⊕ Fin 7)) : GSem nD τ sig × ℕ × Fin 7 := match p.2 with
  | .inl k => (sendCell p.1 k, 0, k)
  | .inr (.inl k) => (recvCell p.1 k, 0, k)
  | .inr (.inr k) => (barCell p.1, 0, k)
theorem tokOf_injective : Function.Injective tokOf := by
  rintro ⟨c, a⟩ ⟨d, b⟩ h
  have h1 : c = d := by
    have := congrArg (fun x : GSem nD τ sig × ℕ × Fin 7 => x.1.1.1) h
    rcases a with a | a | a <;> rcases b with b | b | b <;> exact this
  have hk : ∀ a b : Fin 7 ⊕ Fin 7 ⊕ Fin 7, (tokOf ((0 : Dev nD), a)).1.2 = (tokOf ((0 : Dev nD), b)).1.2 →
      (tokOf ((0 : Dev nD), a)).2.2 = (tokOf ((0 : Dev nD), b)).2.2 → a = b := by decide +kernel
  have h2 : a = b := hk a b
    (by have := congrArg (fun x : GSem nD τ sig × ℕ × Fin 7 => x.1.2) h
        rcases a with a | a | a <;> rcases b with b | b | b <;> exact this)
    (by have := congrArg (fun x : GSem nD τ sig × ℕ × Fin 7 => x.2.2) h
        rcases a with a | a | a <;> rcases b with b | b | b <;> exact this)
  rw [h1, h2]
def allToks : Finset (GSem nD τ sig × ℕ × Fin 7) := Finset.univ.map ⟨tokOf, tokOf_injective⟩

def u₀ : UU := (initOf (Pipeline.cells cfgs cellOf_inj) (Pipeline.launchToks cfgs cellOf_inj), initOf allCells allToks)

/-- The rights to pay device `c`'s own cells. -/
def ownToks (c : Dev nD) : sProp 𝕄 :=
  iprop((bigSep Finset.univ fun k : Fin 7 => dutyTok ER (sendCell c k) 0 k) ∗ (bigSep Finset.univ fun k : Fin 7 => dutyTok ER (recvCell c k) 0 k)
    ∗ bigSep Finset.univ fun k : Fin 7 => dutyTok ER (barCell c) 0 k)

/-- Device `c`'s part of the exchange's ghost state as minted. -/
def minted (c : Dev nD) : sProp 𝕄 :=
  iprop((bigSep Finset.univ fun a : Kind => roundState ER (scanRd m ρ) (kcell (c, a)) 0)
    ∗ (bigSep Finset.univ fun a : Kind => atPos ER (kcell (c, a)) 0 ∅ 0) ∗ (bigSep Finset.univ fun a : Kind => reached ER (kcell (c, a)) 0) ∗ ownToks c)

theorem mint : BI.own (ER (initOf allCells allToks)) ⊢ (|==> bigSep Finset.univ (minted m ρ) : sProp 𝕄) := by
  have hC (Φ : GSem nD τ sig → sProp 𝕄) : bigSep allCells Φ = bigSep Finset.univ fun c : Dev nD => bigSep Finset.univ fun a : Kind => Φ (kcell (c, a)) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]
    refine bigSep_congr fun c _ => ?_
    unfold ownToks; rw [bigSep_univ_sum, bigSep_univ_sum]; rfl
  iintro HX
  imod (Rounds.fund ER (scanRd m ρ) allCells allToks) $$ HX with ⟨Hst, Hr, Hat, Htok⟩
  imodintro
  ihave Hst' := (Entails.of_eq (hC fun g => roundState ER (scanRd m ρ) g 0)) $$ Hst
  ihave Hat' := (Entails.of_eq (hC fun g => atPos ER g 0 ∅ 0)) $$ Hat
  ihave Hr' := (Entails.of_eq (hC fun g => reached ER g 0)) $$ Hr
  ihave Htok' := (Entails.of_eq hT) $$ Htok
  unfold minted; simp only [bigSep_sep']
  isplitl [Hst']; · iexact Hst'
  isplitl [Hat']; · iexact Hat'
  isplitl [Hr']; · iexact Hr'
  iexact Htok'

theorem own_zero (c : Dev nD) : (Pipeline.ownSems0 (Ix := Unit) (Name := ℕ) (U := UU) (Lvl := ℕ) (Val := Elt F) (τ := τ) osem c : sProp 𝕄)
    = iprop((bigSep Finset.univ fun k : Fin 7 => semVal (sendCell c k) 0) ∗ bigSep Finset.univ fun k : Fin 7 => semVal (recvCell c k) 0) := by
  unfold Pipeline.ownSems0; rw [bigSep_univ_sum]; rfl
theorem barrier_zero (c : Dev nD) : (unscopedSems0 c : sProp 𝕄) = semVal (barCell c) 0 := by
  unfold unscopedSems0; rw [bigSep_eq_bigSepL_of_eq [SemLoc.reg barS] (by decide) (by decide)]; rfl

theorem bigSep_unit {M : Type} [URA M] (P : Unit → sProp M) : bigSep Finset.univ P = P () := by
  rw [show (Finset.univ : Finset Unit) = {()} from rfl, bigSep_singleton]

/-- A conjunction over a device's cells, kind by kind. -/
theorem by_kind {M : Type} [URA M] (P : Kind → sProp M) :
    bigSep Finset.univ P = iprop((bigSep Finset.univ fun k : Fin 7 => P (kSend k)) ∗ (bigSep Finset.univ fun k : Fin 7 => P (kRecv k)) ∗ P kBar) := by
  rw [bigSep_univ_sum, bigSep_univ_sum, bigSep_unit]; rfl

/-- One device's counters, at zero, become its cells' invariants. -/
theorem open_cells (c : Dev nD) :
    iprop(Pipeline.ownSems0 (Ix := Unit) (Name := ℕ) (U := UU) (Lvl := ℕ) (Val := Elt F) (τ := τ) osem c ∗ unscopedSems0 c ∗ minted m ρ c)
      ⊢ |={Set.univ}=> iprop((bigSep Finset.univ fun a => iprop(∃ κ : ℕ, cellInv ER (scanRd m ρ) κ (kcell (c, a))))
          ∗ (bigSep Finset.univ fun a : Kind => atPos ER (kcell (c, a)) 0 ∅ 0) ∗ (bigSep Finset.univ fun a : Kind => reached ER (kcell (c, a)) 0) ∗ ownToks c) := by
  unfold minted
  rw [own_zero, barrier_zero]
  have hinv : iprop((bigSep Finset.univ fun a : Kind => semVal (kcell (c, a)) 0) ∗ bigSep Finset.univ fun a : Kind => roundState ER (scanRd m ρ) (kcell (c, a)) 0)
      ⊢ (|={Set.univ}=> bigSep Finset.univ fun a => iprop(∃ κ : ℕ, cellInv ER (scanRd m ρ) κ (kcell (c, a))) : sProp 𝕄) := by
    rw [← bigSep_sep']
    exact (bigSep_mono fun a _ => (Rounds.body_intro ER (scanRd m ρ) (kcell (c, a))).trans inv_alloc).trans (bigSep_fupd _ _)
  rw [by_kind fun a => semVal (kcell (c, a)) 0] at hinv
  iintro ⟨⟨HS, HR⟩, HB, Hst, Hat, Hr, Htok⟩
  imod hinv $$ [HS HR HB Hst] with Hinv
  · isplitr [Hst]
    · isplitl [HS]; · iexact HS
      isplitl [HR]; · iexact HR
      iexact HB
    iexact Hst
  imodintro
  isplitl [Hinv]; · iexact Hinv
  isplitl [Hat]; · iexact Hat
  isplitl [Hr]; · iexact Hr
  iexact Htok

/-- A family over devices and distances, each distance turned round the mesh by that many places. -/
theorem turned (P : Dev nD → Fin 7 → sProp 𝕄) (e : Fin 7 → Dev nD ≃ Dev nD) :
    (bigSep Finset.univ fun c : Dev nD => bigSep Finset.univ fun k : Fin 7 => P c k) = bigSep Finset.univ fun c : Dev nD => bigSep Finset.univ fun k : Fin 7 => P (e k c) k := by
  rw [BI.bigSep_univ_comm, BI.bigSep_univ_comm fun c k => P (e k c) k]
  exact bigSep_congr fun k _ => bigSep_univ_equiv (e k) fun c => P c k

/-- The rights dealt round the mesh: each to the device that pays. -/
theorem deal : (bigSep Finset.univ fun c : Dev nD => (ownToks c : sProp 𝕄))
    ⊢ bigSep Finset.univ fun c : Dev nD => iprop((bigSep Finset.univ fun k : Fin 7 => dutyTok ER (barCell (dn c k)) 0 k) ∗ cpyToks c) := by
  unfold ownToks cpyToks
  simp only [bigSep_sep']
  rw [turned (fun c k => dutyTok ER (recvCell c k) 0 k) turn, turned (fun c k => dutyTok ER (barCell c) 0 k) fun k => (turn k).symm]
  iintro ⟨HS, HR, HB⟩
  isplitl [HB]; · iexact HB
  isplitl [HS]; · iexact HS
  iexact HR

/-- With a fact that may be used again and again, every summand into its own. -/
theorem each_with {I : Type} [Fintype I] [DecidableEq I] {R : sProp 𝕄} [BI.Persistent R] {Φ Ψ : I → sProp 𝕄}
    (h : ∀ i, iprop(R ∗ Φ i) ⊢ Ψ i) : iprop(R ∗ bigSep Finset.univ Φ) ⊢ bigSep Finset.univ Ψ :=
  (sep_mono_left (BI.bigSep_of_persistent Finset.univ R)).trans (by rw [← bigSep_sep']; exact bigSep_mono fun i _ => h i)

theorem regroup :
    (bigSep Finset.univ fun c : Dev nD => iprop((bigSep Finset.univ fun a => iprop(∃ κ : ℕ, cellInv ER (scanRd m ρ) κ (kcell (c, a))))
          ∗ (bigSep Finset.univ fun a : Kind => atPos ER (kcell (c, a)) 0 ∅ 0) ∗ (bigSep Finset.univ fun a : Kind => reached ER (kcell (c, a)) 0) ∗ ownToks c) : sProp 𝕄)
      ⊢ bigSep Finset.univ (share m ρ) := by
  rw [bigSep_sep', bigSep_sep', bigSep_sep', ← bigSep_univ_prod (fun p : Dev nD × Kind => iprop(∃ κ : ℕ, cellInv ER (scanRd m ρ) κ (kcell p))),
    ← bigSep_univ_prod (fun p : Dev nD × Kind => (reached ER (kcell p) 0 : sProp 𝕄))]
  iintro ⟨HI, Hat, #HR, Htok⟩
  ihave HK := (BI.bigSep_exists_pi Finset.univ (fun (p : Dev nD × Kind) (κ : ℕ) => (cellInv ER (scanRd m ρ) κ (kcell p) : sProp 𝕄))) $$ HI
  icases HK with ⟨%K, #HI⟩
  ihave Htk := deal $$ Htok
  have hw : ∀ c : Dev nD, iprop(records m ρ K ∗ ((bigSep Finset.univ fun a : Kind => atPos ER (kcell (c, a)) 0 ∅ 0)
      ∗ (bigSep Finset.univ fun k : Fin 7 => dutyTok ER (barCell (dn c k)) 0 k) ∗ cpyToks c)) ⊢ share m ρ c := by
    intro c
    rw [by_kind fun a => atPos ER (kcell (c, a)) 0 ∅ 0]
    unfold share dealt atSends atRecvs
    iintro ⟨#HR, ⟨HS, HV, HB⟩, HtB, HtC⟩
    iexists K
    isplitr; · iexact HR
    isplitl [HB]; · iexact HB
    isplitl [HS]; · iexact HS
    isplitl [HV]; · iexact HV
    isplitl [HtB]; · iexact HtB
    iexact HtC
  iapply (each_with hw)
  isplitr
  · unfold records
    isplitl; · iexact HI
    iexact HR
  · iapply (Entails.of_eq (bigSep_sep' Finset.univ (fun c : Dev nD => bigSep Finset.univ fun a : Kind => (atPos ER (kcell (c, a)) 0 ∅ 0 : sProp 𝕄))
      fun c : Dev nD => iprop((bigSep Finset.univ fun k : Fin 7 => dutyTok ER (barCell (dn c k)) 0 k) ∗ cpyToks c)).symm)
    isplitl [Hat]; · iexact Hat
    iexact Htk

/-- All the devices' counters at once. -/
theorem open_all : (bigSep Finset.univ fun c => iprop(Pipeline.ownSems0 (Ix := Unit) (Name := ℕ) (U := UU) (Lvl := ℕ) (Val := Elt F) (τ := τ) osem c ∗ unscopedSems0 c ∗ minted m ρ c) : sProp 𝕄)
    ⊢ |={Set.univ}=> bigSep Finset.univ (share m ρ) :=
  ((bigSep_mono fun c _ => open_cells m ρ c).trans (bigSep_fupd _ _)).trans (BI.fupd_mono (regroup m ρ))

/-! ## The launch's credit: as much as the others owe -/

theorem bar_eq {a b : Dev nD} : barCell a = barCell b ↔ a = b := ⟨fun h => congrArg (fun g : GSem nD τ sig => g.1.1) h, fun h => h ▸ rfl⟩
theorem recv_eq {a b : Dev nD} {j k : Fin 7} : recvCell a j = recvCell b k ↔ a = b ∧ j = k := by
  constructor
  · intro h
    have h1 : (a, kRecv j) = (b, kRecv k) := kcell_injective h
    exact ⟨congrArg Prod.fst h1, Sum.inl.inj (Sum.inr.inj (congrArg Prod.snd h1))⟩
  · rintro ⟨rfl, rfl⟩; rfl
theorem bar_ne_recv {a b : Dev nD} {k : Fin 7} : barCell a ≠ recvCell b k := fun h => by
  have h1 : (a, kBar) = (b, kRecv k) := kcell_injective h
  exact absurd (congrArg Prod.snd h1) (by simp)

theorem owed_at (f : Fin 7 → CellTallies nD τ sig Unit) (g : GSem nD τ sig) (u : Unit) : owedFrom f 0 g u = ∑ k, f k g u := by
  unfold owedFrom; rw [fromJ_zero, Finset.sum_apply, Finsupp.finsetSum_apply]

/-- What device `d` owes device `c`'s barrier, -/
theorem owes_bar (d c : Dev nD) : O₀ d (barCell c) () = ∑ k : Fin 7, if Has d k ∧ c = dn d k then 1 else 0 := by
  unfold O₀
  rw [Pi.add_apply, Finsupp.add_apply, owed_at, owed_at]
  rw [Finset.sum_eq_zero (f := fun k => cpyT d k (barCell c) ()) fun k _ => ?_, Nat.add_zero]
  · refine Finset.sum_congr rfl fun k _ => ?_
    unfold sigT
    by_cases h : Has d k
    · rw [if_pos h, tallyAt_apply]
      simp only [bar_eq, h, true_and, and_true]
    · rw [if_neg h, if_neg fun h' => h h'.1]; rfl
  · by_contra h
    exact bar_ne_recv (cpyT_pos (Nat.pos_of_ne_zero h))
/-- and its receive cell `j`. -/
theorem owes_recv (d c : Dev nD) (j : Fin 7) : O₀ d (recvCell c j) () = (∑ k : Fin 7, if Sends d k ∧ c = up d k ∧ j = k then 1 else 0) * N := by
  unfold O₀
  rw [Pi.add_apply, Finsupp.add_apply, owed_at, owed_at]
  rw [Finset.sum_eq_zero (f := fun k => sigT d k (recvCell c j) ()) fun k _ => ?_, Nat.zero_add, Finset.sum_mul]
  · refine Finset.sum_congr rfl fun k _ => ?_
    unfold cpyT
    by_cases h : Sends d k
    · rw [if_pos h, tallyAt_apply]
      simp only [recv_eq, h, true_and, and_true, ite_mul, one_mul, zero_mul]
    · rw [if_neg h, if_neg fun h' => h h'.1, Nat.zero_mul]; rfl
  · by_contra h
    exact bar_ne_recv (sigT_pos (Nat.pos_of_ne_zero h)).symm

/-- As many devices after `c` signal it as there are; -/
theorem count_bar (c : Dev nD) : (∑ d : Dev nD, ∑ k : Fin 7, if Has d k ∧ c = dn d k then 1 else 0) = 7 - c.val := by revert c; decide +kernel
/-- and one device at most copies into its slot `j`. -/
theorem count_recv (c : Dev nD) (j : Fin 7) : (∑ d : Dev nD, ∑ k : Fin 7, if Sends d k ∧ c = up d k ∧ j = k then 1 else 0) = if Has c j then 1 else 0 := by
  revert c j; decide +kernel

theorem launch_bar (c : Dev nD) :
    tallyOn (barCell c) (launchCredit (Pipeline.owing O₀) 0 (barCell c)) = (tallyAt (barCell c) () (7 - c.val) : CellTallies nD τ sig Unit) := by
  unfold tallyAt; refine congrArg _ (Finsupp.ext fun u => ?_); cases u
  rw [Pipeline.launchCredit_owing, Finsupp.single_eq_same, Finset.sum_congr rfl fun d _ => owes_bar d c, count_bar]

theorem launch_recv (c : Dev nD) (k : Fin 7) :
    tallyOn (recvCell c k) (launchCredit (Pipeline.owing O₀) 0 (recvCell c k)) = (tallyAt (recvCell c k) () (if Has c k then N else 0) : CellTallies nD τ sig Unit) := by
  unfold tallyAt; refine congrArg _ (Finsupp.ext fun u => ?_); cases u
  rw [Pipeline.launchCredit_owing, Finsupp.single_eq_same, Finset.sum_congr rfl fun d _ => owes_recv d c k, ← Finset.sum_mul, count_recv, ite_mul, one_mul, zero_mul]

/-- The receive cells among a core's semaphores other than its barrier. -/
def recvLocs : Finset (SemLoc sig) := Finset.univ.map ⟨fun k : Fin 7 => SemLoc.dma (recvQ k), by decide⟩
theorem recvLocs_sub : recvLocs ⊆ Finset.univ.erase (SemLoc.reg barS) := by decide

theorem credits (c : Dev nD) : (Pipeline.launchCred O₀ c : sProp 𝕄) ⊢ iprop(cred (tallyAt (barCell c) () (7 - c.val)) ∗ credRs c) := by
  unfold Pipeline.launchCred
  rw [bigSep_univ_at _ (SemLoc.reg barS), launch_bar]
  refine sep_mono_right ((bigSep_subset recvLocs_sub).trans ?_)
  unfold recvLocs credRs
  rw [bigSep_map]
  refine each fun k => ?_
  show cred (tallyOn (recvCell c k) (launchCredit (Pipeline.owing O₀) 0 (recvCell c k))) ⊢ _
  rw [launch_recv]
  unfold credR
  by_cases h : Has c k
  · rw [if_pos h, if_pos h]
  · rw [if_neg h, if_neg h, tallyAt_zero, cred_zero]

/-! ## The launch theorem's conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ share m ρ c)
      ⊢ |={Set.univ}=> iprop(start m ρ c ∗ emp) := by
  iintro ⟨-, Hlev, Hcr, -, HG⟩
  ihave Hc := (credits (F := F) c) $$ Hcr
  icases Hc with ⟨H1, HN⟩
  imodintro
  unfold start
  isplitl
  · isplitl [HG]; · iexact HG
    isplitl [H1]; · iexact H1
    isplitl [HN]; · iexact HN
    iexact Hlev
  · iempintro

theorem enter_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem exit_elim (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, own_zero, barrier_zero]
  unfold Φ₁ zeroed scratch
  iintro ⟨⟨HB, HS, HV⟩, Hr⟩
  isplitl [HB]; · iexact HB
  isplitl [HS HV]
  · isplitl [HS]; · iexact HS
    iexact HV
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- A device's array of window `w` after the run. -/
def endA (c : Dev nD) (w : Fin cfg0.W) : Buf (Elt F) ((cfg0.win w).arr.view.loc (c : Thread nD τ)) := (dats m ρ 0 c).arrAt w cfg0.N

/-- Every device's arrays are those. -/
def Ends : PUnit × MemSt nD τ sig (Elt F) → Prop := fun r =>
  ∀ c : Dev nD, ∀ w : Fin cfg0.W, r.2.mem ((cfg0.win w).arr.view.loc (c : Thread nD τ)) = endA m ρ c w

set_option maxRecDepth 8000 in
/-- For any float values and from any memory with every counter at zero, every fair run of the program on the eight
    devices ends, with the arrays as computed and every counter at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0)
    (hshare := share_whole m ρ) (hdistinct := winFacts0.arr_inj)
    (O₀ := O₀) (howed₀ := fun _ => rfl) (howedN := fun _ => rfl)
    (L := L) (lv := lv) (hL := L_of_ne) (hwaits := waits m ρ)
    (G := minted m ρ) (G' := share m ρ) (u₀ := u₀)
    (hu₀ := by
      unfold u₀
      iintro Hu
      ihave H := (ownU_pair _ _) $$ Hu
      icases H with ⟨HP, HX⟩
      imod (mint m ρ) $$ HX with HG
      imodintro
      isplitl [HP] <;> iassumption)
    (hglob := open_all m ρ)
    (hA := fun _ _ => rfl) (hpf := fun _ k => k.elim0)
    (X := start m ρ) (Y := fun c => unscopedSems0 c) (Z := fun _ => iprop(emp))
    (hX := start_intro m ρ) (hin := enter_intro m ρ) (hout := exit_elim m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The array of `x` is unchanged. -/
theorem endA_x (c : Dev nD) : endA m ρ c (0 : Fin 2) = (s₀ m ρ).mem (win0_0.arr.view.loc (c : Thread nD τ)) :=
  (dats (F := F) m ρ 0 c).arrAt_in (0 : Fin 2) rfl _

end Cert.Scan

end
-- ==== Proof.Sums.lean ====
/-
  The two programs' results in exact arithmetic, entry by entry, as sums down a column of `x`.

  * `reference_apply` — entry `(j, e)` of the reference's result is the sum of the first `j + 1` entries of column `e`;
  * `total_apply`, `carry_apply`, `out_apply` — where device `c` holds block `c` of `x`, the row it sends is the sum of its
    block's rows; what it has gathered from the `j` devices before it is the sum of the rows of their blocks; and entry
    `(r, e)` of what it leaves is the sum of the first `256 c + r + 1` entries of column `e`.
-/
module

public import proofs.«01_k».proof.Proof.Launch
public import proofs.«01_k».proof.Proof.Gen.ReferenceIdeal.Run
public import Idealize.ShloMosaic.Lib.MatmulPlain
public import Idealize.ShloMosaic.Lib.Routing.OpsOne
public import Idealize.ShloMosaic.Lib.Pipeline.Value

@[expose] public section

set_option maxRecDepth 16384

noncomputable section

namespace Cert.Scan

open Cert.KernelIdeal Cert.KernelIdeal.Gen
open Idealize.ShloMosaic Idealize.ShloMosaic.TcCoe Idealize.ShloMosaic.ValueIdx
open Idealize.ShloMosaic.Routing (shape2 symm_col numel_col)
open scoped BigOperators

/-! ## Sums -/

/-- Adding a list's terms one after another to `v` is `v` plus their sum. -/
theorem foldl_add {ι : Type} (f : ι → EReal) (l : List ι) (v : EReal) : l.foldl (fun r a => r + f a) v = v + (l.map f).sum := by
  induction l generalizing v with
  | nil => simp
  | cons a l ih => rw [List.foldl_cons, ih, List.map_cons, List.sum_cons, add_assoc]

/-- A sum over `n` positions of what depends on the position's number. -/
theorem sum_positions (f : ℕ → EReal) (n : ℕ) : ((List.finRange n).map fun i => f i.val).sum = ∑ i ∈ Finset.range n, f i := by
  rw [← Fin.sum_univ_eq_sum_range, Fin.sum_univ_def]

/-- The terms of `g` met by a window of `b + 1` positions that ends at `j`, those before the start counting as zero. -/
theorem sum_window (g : ℕ → EReal) (b j : ℕ) (hj : j ≤ b) :
    (∑ w ∈ Finset.range (b + 1), if b ≤ j + w then g (j + w - b) else 0) = ∑ n ∈ Finset.range (j + 1), g n := by
  rw [show b + 1 = (b - j) + (j + 1) by omega, Finset.sum_range_add, Finset.sum_eq_zero, zero_add]
  · refine Finset.sum_congr rfl fun x _ => ?_
    rw [if_pos (by omega), show j + (b - j + x) - b = x by omega]
  · intro x hx
    rw [if_neg (by have := Finset.mem_range.1 hx; omega)]

/-- The first `r + 1` of `N` terms, picked by a zero-one factor. -/
theorem sum_masked (g : ℕ → EReal) (N r : ℕ) (hr : r < N) :
    (∑ k ∈ Finset.range N, (if k ≤ r then (1 : EReal) else 0) * g k) = ∑ k ∈ Finset.range (r + 1), g k := by
  rw [show N = (r + 1) + (N - (r + 1)) by omega, Finset.sum_range_add, Finset.sum_eq_zero (s := Finset.range (N - (r + 1))), add_zero]
  · refine Finset.sum_congr rfl fun k hk => ?_
    rw [if_pos (by have := Finset.mem_range.1 hk; omega), one_mul]
  · intro k _
    rw [if_neg (by omega), zero_mul]

/-! ## The reference -/

/-- Column `e` of an array as a sequence, zero past its end. -/
def col {R N : ℕ} (X : (shape2 R N).Idx → EReal) (e : Fin N) (n : ℕ) : EReal := if h : n < R then X (ix2 ⟨n, h⟩ e) else 0

/-- Entry `(j, e)` of the reference's result: the sum of column `e`'s entries up to and including row `j`. -/
theorem reference_apply {R b N : ℕ} {u : Shape} (hR : b + 1 = R) (X : (shape2 R N).Idx → EReal) (v : u.Idx → EReal) (hv : ∀ i, v i = 0)
    (h : (shape2 R N).ReduceWindows (![R, 1] : Fin 2 → Nat) ![1, 1] ![b, 0] ![0, 0] (shape2 R N)) (hu : 0 < u.numel)
    (j : Fin R) (e : Fin N) :
    Host.reduceWindowAdd (F := Ideal) (φ := .f32) ![R, 1] ![1, 1] ![b, 0] ![0, 0] X v h hu (ix2 j e)
      = ∑ n ∈ Finset.range (j.val + 1), col X e n := by
  subst hR
  have hj := j.isLt
  have he := e.isLt
  show Host.reduceWindow (· + ·) ![b + 1, 1] ![1, 1] ![b, 0] ![0, 0] X (fun _ : (⟨0, ![]⟩ : Shape).Idx => v (Shape.Idx.first hu))
    h (by decide) (ix2 j e) = _
  rw [hv]
  unfold Host.reduceWindow
  dsimp only
  rw [foldl_add, zero_add, ← sum_window (col X e) b j.val (by omega)]
  refine Eq.trans ?_ ((sum_positions (fun w => if b ≤ j.val + w then col X e (j.val + w - b) else 0) (shape2 (b + 1) 1).numel).trans
    (by rw [numel_col]))
  refine congrArg List.sum (List.map_congr_left fun n _ => ?_)
  have hn : n.val < b + 1 := (n.cast (numel_col (b + 1))).isLt
  have hw0 : ((shape2 (b + 1) 1).rowMajor.symm n 0).val = n.val := by rw [symm_col]; rfl
  have hw1 : ((shape2 (b + 1) 1).rowMajor.symm n 1).val = 0 := by rw [symm_col]; rfl
  have p0 : j.val * 1 + ((shape2 (b + 1) 1).rowMajor.symm n 0).val = j.val + n.val := by rw [hw0, Nat.mul_one]
  have p1 : e.val * 1 + ((shape2 (b + 1) 1).rowMajor.symm n 1).val = e.val := by rw [hw1, Nat.mul_one, Nat.add_zero]
  split
  · next hin =>
    have h0 : b ≤ j.val * 1 + ((shape2 (b + 1) 1).rowMajor.symm n 0).val := (hin 0).1
    rw [p0] at h0
    rw [if_pos h0, col, dif_pos (by omega)]
    refine congrArg X (funext fun a => Fin.ext ?_)
    match a with
    | ⟨0, _⟩ => exact congrArg (· - b) p0
    | ⟨1, _⟩ => exact p1
  · next hin =>
    rw [if_neg fun h0 => hin fun a => ?_]
    match a with
    | ⟨0, _⟩ =>
      show b ≤ j.val * 1 + ((shape2 (b + 1) 1).rowMajor.symm n 0).val ∧ j.val * 1 + ((shape2 (b + 1) 1).rowMajor.symm n 0).val - b < b + 1
      omega
    | ⟨1, _⟩ =>
      show 0 ≤ e.val * 1 + ((shape2 (b + 1) 1).rowMajor.symm n 1).val ∧ e.val * 1 + ((shape2 (b + 1) 1).rowMajor.symm n 1).val - 0 < N
      omega

/-! ## The kernel -/

/-- The mask is one on and below the diagonal and zero above it. -/
theorem mask_apply (r k : Fin 256) : (k0_pay3 (F := Ideal) : S256x256.Idx → EReal) (ix2 r k) = if k.val ≤ r.val then 1 else 0 := by
  have hr := r.isLt
  have hk := k.isLt
  have i0 : iota .tc S256x256 32 [0] iota_S256x256_d0_w32 (ix2 r k) = BitVec.ofNat 32 r.val := iota_single_apply ..
  have i1 : iota .tc S256x256 32 [1] iota_S256x256_d1_w32 (ix2 r k) = BitVec.ofNat 32 k.val := iota_single_apply ..
  show (((((IntOp.cmpi .sge (iota .tc S256x256 32 [0] iota_S256x256_d0_w32 (ix2 r k)) (iota .tc S256x256 32 [1] iota_S256x256_d1_w32 (ix2 r k))).setWidth 32).toInt : ℤ) : ℝ) : EReal) = _
  rw [i0, i1]
  have t : ∀ n : ℕ, n < 256 → (BitVec.ofNat 32 n).toInt = n := fun n hn => by
    rw [BitVec.toInt_ofNat', Int.bmod_eq_of_le] <;> omega
  have hc : (BitVec.ofNat 32 k.val).sle (BitVec.ofNat 32 r.val) = decide (k.val ≤ r.val) := by
    rw [BitVec.sle, t _ hr, t _ hk]
    exact decide_eq_decide.2 Int.ofNat_le
  by_cases h : k.val ≤ r.val
  · rw [if_pos h]
    have : IntOp.cmpi .sge (BitVec.ofNat 32 r.val) (BitVec.ofNat 32 k.val) = 1#1 := by simp [IntOp.cmpi, hc, h]
    rw [this]; simp
  · rw [if_neg h]
    have : IntOp.cmpi .sge (BitVec.ofNat 32 r.val) (BitVec.ofNat 32 k.val) = 0#1 := by simp [IntOp.cmpi, hc, h]
    rw [this]; simp

/-- The zero row a device starts from. -/
theorem start_apply (i : S1x256.Idx) : (k0_pay4 (F := Ideal) : S1x256.Idx → EReal) i = 0 := by
  unfold k0_pay4
  rw [shapeCast_self]
  exact Ideal.ofBits_zero_f32

/-- A block's row of sums. -/
theorem rows_apply (x : S256x256.Idx → EReal) (e : Fin 256) :
    (k0_pay2 (F := Ideal) (k0_pay1 (F := Ideal) x) : S1x256.Idx → EReal) (ix2 (0 : Fin 1) e) = ∑ k : Fin 256, x (ix2 k e) := by
  unfold k0_pay2 k0_pay1
  dsimp only
  rw [shapeCast_self, shapeCast_self, shapeCast_addUnit_apply]
  refine (Ideal.multiReduction_add_single x _ _ _ _ _).trans (Finset.sum_congr rfl fun k _ => congrArg x (funext fun a => Fin.ext ?_))
  match a with
  | ⟨0, _⟩ => rfl
  | ⟨1, _⟩ => rfl

/-- What a device leaves, from its block and the row it has gathered. -/
theorem leave_apply (x : S256x256.Idx → EReal) (y : S1x256.Idx → EReal) (r e : Fin 256) :
    (k0_pay12 (F := Ideal) k0_pay3 x y : S256x256.Idx → EReal) (ix2 r e)
      = (∑ k : Fin 256, (if k.val ≤ r.val then (1 : EReal) else 0) * x (ix2 k e)) + y (ix2 (0 : Fin 1) e) := by
  unfold k0_pay12
  rw [shapeCast_self]
  refine congrArg₂ (· + ·) ?_ (broadcastTo_apply _ _ _ _ fun a => ?_)
  · refine (Ideal.matmul_plain_apply (M := 256) (K := 256) (N := 256) (some .fp32) _ _ _ r e).trans ?_
    show Ideal.ofBits .f32 0x00000000#32 + _ = _
    rw [Ideal.ofBits_zero_f32, zero_add]
    exact Finset.sum_congr rfl fun k _ => congrArg (· * x (ix2 k e)) (mask_apply r k)
  · match a with
    | ⟨0, _⟩ => rfl
    | ⟨1, _⟩ => rfl

section Mesh

variable (m : (ℓ : Loc nD τ sig) → Buf (Elt Ideal) ℓ) (ρ : Dev nD → PrngReg)

/-- Every device holds its block of the whole array `X`. -/
def Holds (X : (shape2 2048 256).Idx → EReal) : Prop :=
  ∀ (c : Dev nD) (k e : Fin 256), (xstg m ρ c : S256x256.Idx → EReal) (ix2 k e) = col X e (256 * c.val + k.val)

variable {m ρ} {X : (shape2 2048 256).Idx → EReal}

/-- The row device `c` sends: the sum of its block's rows. -/
theorem total_apply (hX : Holds m ρ X) (c : Dev nD) (e : Fin 256) :
    @Eq EReal (tot m ρ c (ix2 (0 : Fin 1) e)) (∑ k ∈ Finset.range 256, col X e (256 * c.val + k)) := by
  unfold tot
  rw [rows_apply, ← Fin.sum_univ_eq_sum_range (fun k => col X e (256 * c.val + k))]
  exact Finset.sum_congr rfl fun k _ => hX c k e

/-- The device `k + 1` places before `c`, where there is one, has number `c - (k + 1)`. -/
theorem dn_val (c : Dev nD) (k : Fin 7) (h : Has c k) : (dn c k).val = c.val - (k.val + 1) := by
  revert c k; decide

/-- What device `c` has gathered after `j` rounds: the rows of the blocks of the `j` devices before it (of all there are,
    where fewer). -/
theorem carry_apply (hX : Holds m ρ X) (c : Dev nD) (e : Fin 256) : ∀ j : ℕ, j ≤ 7 →
    carryV m ρ c j (ix2 (0 : Fin 1) e) = ∑ n ∈ Finset.Ico (256 * (c.val - j)) (256 * c.val), col X e n
  | 0, _ => by
    rw [Nat.sub_zero, Finset.Ico_self, Finset.sum_empty]
    exact start_apply _
  | j + 1, hj => by
    have ih := carry_apply hX c e j (by omega)
    by_cases h : Has c ⟨j, hj⟩
    · have hc : j < c.val := h
      rw [carryV_has m ρ c ⟨j, hj⟩ h]
      show @HAdd.hAdd EReal EReal EReal _ (carryV m ρ c j (ix2 (0 : Fin 1) e)) (tot m ρ (dn c ⟨j, hj⟩) (ix2 (0 : Fin 1) e)) = _
      rw [ih, total_apply hX, dn_val c _ h, add_comm,
        ← Finset.sum_Ico_consecutive (col X e) (m := 256 * (c.val - (j + 1))) (n := 256 * (c.val - j)) (by omega) (by omega)]
      refine congrArg (· + _) ?_
      rw [Finset.sum_Ico_eq_sum_range]
      refine Finset.sum_congr (congrArg Finset.range ?_) fun _ _ => rfl
      omega
    · have hc : ¬ j < c.val := h
      rw [carryV_skip m ρ c ⟨j, hj⟩ h]
      refine ih.trans ?_
      rw [show c.val - (j + 1) = c.val - j by omega]

/-- Entry `(r, e)` of what device `c` leaves: the sum of the first `256 c + r + 1` entries of column `e`. -/
theorem out_apply (hX : Holds m ρ X) (c : Dev nD) (r e : Fin 256) :
    @Eq EReal (outAt m ρ c (ix2 r e)) (∑ n ∈ Finset.range (256 * c.val + r.val + 1), col X e n) := by
  have hc : c.val < 8 := c.isLt
  unfold outAt
  rw [leave_apply, carry_apply hX c e 7 (le_refl _), show c.val - 7 = 0 by omega, Nat.mul_zero, ← Finset.range_eq_Ico, add_comm,
    show 256 * c.val + r.val + 1 = 256 * c.val + (r.val + 1) by omega, Finset.sum_range_add,
    ← sum_masked (fun k => col X e (256 * c.val + k)) 256 r.val r.isLt,
    ← Fin.sum_univ_eq_sum_range (fun k => (if k ≤ r.val then (1 : EReal) else 0) * col X e (256 * c.val + k))]
  exact congrArg (_ + ·) (Finset.sum_congr rfl fun k _ => congrArg (_ * ·) (hX c k e))

end Mesh

end Cert.Scan

end
-- ==== Proof.Value.lean ====
/-
  The kernel's result is the reference's: the contents each device's result array ends with (`endA_out`), the block of `x`
  a device holds (`holds`), and the comparison of the two results (`endA_block`).
-/
module

public import proofs.«01_k».proof.Proof.Sums

@[expose] public section

set_option maxRecDepth 16384

noncomputable section

namespace Cert.Scan

open Cert.KernelIdeal Cert.KernelIdeal.Gen
open Idealize.ShloMosaic Idealize.ShloMosaic.TcCoe Idealize.ShloMosaic.ValueIdx
open Idealize.ShloMosaic.Routing (shape2)
open scoped BigOperators

variable {F : FTy → Type} [FloatOps F] (m : (ℓ : Loc nD τ sig) → Buf (Elt F) ℓ) (ρ : Dev nD → PrngReg)

/-- The one block of the result array, read, is the whole of it. -/
theorem read_result (f : (main_v1 : Ref sig .tc).ty.Contents (Elt F)) : (win0_1.blk (0 : Fin 1)).view.read (Elt F) f = f :=
  Memref.read_access_unit_zero (Elt F) main_v1 (off := fun a => win0_1.index (0 : Fin 1) a * main_v1.ty.shape.size a)
    (funext fun a => by fin_cases a <;> decide) (fun a => by fin_cases a <;> decide) f

/-- The one block of the array of `x`, read, is the whole of it. -/
theorem read_x (f : (main_arg0 : Ref sig .tc).ty.Contents (Elt F)) : (win0_0.blk (0 : Fin 1)).view.read (Elt F) f = f :=
  Memref.read_access_unit_zero (Elt F) main_arg0 (off := fun a => win0_0.index (0 : Fin 1) a * main_arg0.ty.shape.size a)
    (funext fun a => by fin_cases a <;> decide) (fun a => by fin_cases a <;> decide) f

/-- Device `c`'s result array ends holding what its body left. -/
theorem endA_out (c : Dev nD) : endA m ρ c (1 : Fin 2) = outAt m ρ c := by
  have h := (dats m ρ 0 c).read_blk_arrAt (1 : Fin 2) (outAt m ρ c)
    (fun t _ => by rw [show t = (0 : Fin 1) from Subsingleton.elim (α := Fin 1) _ _]; exact (read_result (outAt m ρ c)).symm)
    (0 : Fin 1) (flush0_1 _)
  exact (read_result _).symm.trans (h.trans (read_result _))

/-- The block of `x` staged on device `c` is its array. -/
theorem xstg_eq (c : Dev nD) : xstg m ρ c = m ((c : Thread nD τ).loc main_arg0) := read_x _

/-- The blocks tile: eight of 256 rows make the whole array. -/
theorem tiles : Layout.Tiles ⟨2, ![256, 256]⟩ ⟨2, ![2048, 256]⟩ 0 8 := by decide

/-- Entry `(r, e)` of block `c` of an array is its entry `(256 c + r, e)`. -/
theorem block_entry (c : Fin 8) (r e : Fin 256) :
    tiles.idx c (ix2 r e) = ix2 (⟨256 * c.val + r.val, by have := c.isLt; have := r.isLt; omega⟩ : Fin 2048) e := by
  funext a
  refine Fin.ext ?_
  match a with
  | ⟨0, _⟩ => exact congrArg (· + r.val) (Nat.mul_comm c.val 256)
  | ⟨1, _⟩ => rfl

/-- Where each device's array of `x` is its block of `X`, the devices hold `X`. -/
theorem holds (m : (ℓ : Loc nD τ sig) → Buf (Elt Ideal) ℓ) (ρ : Dev nD → PrngReg) (X : (shape2 2048 256).Idx → EReal)
    (h : ∀ c : Dev nD, m ((c : Thread nD τ).loc main_arg0) = Layout.block ⟨2, ![256, 256]⟩ ⟨2, ![2048, 256]⟩ 0 8 c X) :
    Holds m ρ X := fun c k e => by
  have hc : c.val < 8 := c.isLt
  have hk := k.isLt
  rw [xstg_eq, h c, col, dif_pos (by omega)]
  exact congrArg X (block_entry c k e)

/-- The reference's result for the whole array `X`. -/
abbrev whole (X : (shape2 2048 256).Idx → EReal) : (shape2 2048 256).Idx → EReal :=
  Host.reduceWindowAdd (F := Ideal) (φ := .f32) ![2048, 1] ![1, 1] ![2047, 0] ![0, 0] X
    (broadcastInDim Cert.ReferenceIdeal.S_ ![] Cert.ReferenceIdeal.Gen.bcast_S_S_ (constant Cert.ReferenceIdeal.S_ .f32 0x00000000#32))
    Cert.ReferenceIdeal.Gen.reduceWindows_S2048x256_S2048x256_w2048s1p2047_0_w1s1p0_0 Cert.ReferenceIdeal.Gen.h_S_

/-- Its entry `(j, e)`: the sum of the first `j + 1` entries of column `e`. -/
theorem whole_apply (X : (shape2 2048 256).Idx → EReal) (j : Fin 2048) (e : Fin 256) :
    whole X (ix2 j e) = ∑ n ∈ Finset.range (j.val + 1), col X e n :=
  reference_apply (R := 2048) (b := 2047) (by decide) X _ (fun _ => Ideal.ofBits_zero_f32) _ _ j e

/-- Where the devices hold `X`, each ends with its block of the reference's result for `X`. -/
theorem endA_block (m : (ℓ : Loc nD τ sig) → Buf (Elt Ideal) ℓ) (ρ : Dev nD → PrngReg) (X : (shape2 2048 256).Idx → EReal)
    (h : Holds m ρ X) (c : Dev nD) :
    endA m ρ c (1 : Fin 2) = Layout.block ⟨2, ![256, 256]⟩ ⟨2, ![2048, 256]⟩ 0 8 c (whole X) := by
  have h' : ∀ r e : Fin 256, @Eq EReal (outAt m ρ c (ix2 r e)) (whole X (tiles.idx c (ix2 r e))) := fun r e => by
    rw [out_apply h, block_entry, whole_apply]
  rw [endA_out]
  funext i
  obtain ⟨r, e, rfl⟩ : ∃ r e : Fin 256, i = ix2 r e := ⟨_, _, eq_ix2 i⟩
  exact h' r e

end Cert.Scan

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- For any float values and from any memory with every counter at zero, every fair run of the kernel on the eight devices
    ends with `x` unchanged and every counter at zero. -/
theorem keeps {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ (fun r =>
      (∀ c : Dev Cert.KernelIdeal.nD, r.2.mem (c.tc.loc Cert.KernelIdeal.main_arg0) = m (c.tc.loc Cert.KernelIdeal.main_arg0))
        ∧ r.2.sem = fun _ => 0) :=
  (θ_run Cert.KernelIdeal.defs _ _).mono (fun _ h => ⟨fun c => (h.1 c (0 : Fin 2)).trans (Cert.Scan.endA_x m ρ c), h.2⟩)
    (Cert.Scan.run_main (F := F) m ρ)

/-- The kernel's body table is the idealized kernel's: their one body has the same text. -/
theorem bodies : Cert.Kernel.defs₀ (F := Bits) = Cert.KernelIdeal.defs₀ (F := Bits) := by
  unfold Cert.Kernel.defs₀ Cert.KernelIdeal.defs₀
  refine congrArg (Defs.onTc (nD := Cert.KernelIdeal.nD) (τ := Cert.KernelIdeal.τ) (sig := Cert.KernelIdeal.sig) (Λ := Cert.KernelIdeal.Λ₀)) ?_
  funext l a
  match l, a with
  | ⟨0, _⟩, (t, s) => rfl

/-- So the programs' tables are equal. -/
theorem tables : Cert.Kernel.defs (F := Bits) = Cert.KernelIdeal.defs (F := Bits) :=
  congrArg (Pipeline.defs Cert.KernelIdeal.pcfgs) bodies

/-- The kernel leaves `x` and the counters so. Its text is the idealized kernel's, so the run is the one written there, read
    at the machine's own floats. -/
theorem frame_kernel : Cert.quiescent_Kernel := fun m ρ _ => by
  rw [tables]
  exact keeps (F := Bits) m ρ

/-- So does the idealized kernel, in exact arithmetic. -/
theorem frame_kernelIdeal : Cert.quiescent_KernelIdeal := fun m ρ _ => keeps (F := Ideal) m ρ

/-- Every run of the reference ends with `x` unchanged; it has no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- No operation of the kernel was replaced. -/
theorem preserves : Cert.preserves_Kernel_KernelIdeal := trivial

/-- In exact arithmetic, from memories where every device holds its block of the reference's `x`, both programs run; every
    device's result array ends with its block of the reference's result, and the arguments are unchanged. -/
theorem algebraic : Cert.algebraic_KernelIdeal_ReferenceIdeal := fun m g m' g' _ hx =>
  ⟨Cert.Scan.whole (m' ((0 : Dev Cert.ReferenceIdeal.nD).tc.loc Cert.ReferenceIdeal.main_arg0)),
    (θ_run Cert.KernelIdeal.defs _ _).mono (fun _ h c =>
        ⟨(h.1 c (1 : Fin 2)).trans (Cert.Scan.endA_block m g _ (Cert.Scan.holds m g _ hx) c), (h.1 c (0 : Fin 2)).trans (Cert.Scan.endA_x m g c)⟩)
      (Cert.Scan.run_main (F := Ideal) m g),
    (θ_run Cert.ReferenceIdeal.defs _ _).mono (fun _ h => h 0) (Cert.ReferenceIdeal.Value.run (F := Ideal) m' g')⟩

/-- All the claims. -/
theorem claim : Cert.Claim := ⟨Cert.Kernel.Gen.facts, Cert.KernelIdeal.Gen.facts, Cert.ReferenceIdeal.Gen.facts,
  frame_kernel, frame_kernelIdeal, frame_reference, preserves, algebraic⟩

end Cert.Proof

end
